-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x4 : Shape := ⟨2, ![20000, 4]⟩
abbrev S20000 : Shape := ⟨1, ![20000]⟩
abbrev S20000x1 : Shape := ⟨2, ![20000, 1]⟩
abbrev S_ : Shape := ⟨0, ![]⟩
abbrev S20480 : Shape := ⟨1, ![20480]⟩
abbrev S160x128 : Shape := ⟨2, ![160, 128]⟩
abbrev S2000 : Shape := ⟨1, ![2000]⟩
abbrev S2000x1 : Shape := ⟨2, ![2000, 1]⟩
abbrev S2000x4 : Shape := ⟨2, ![2000, 4]⟩
abbrev S2048x4 : Shape := ⟨2, ![2048, 4]⟩
abbrev S2048x1 : Shape := ⟨2, ![2048, 1]⟩
abbrev S2048 : Shape := ⟨1, ![2048]⟩
abbrev S1x2048 : Shape := ⟨2, ![1, 2048]⟩
abbrev S1x128 : Shape := ⟨2, ![1, 128]⟩
abbrev S128x1 : Shape := ⟨2, ![128, 1]⟩
abbrev S128x2048 : Shape := ⟨2, ![128, 2048]⟩
abbrev S128x128 : Shape := ⟨2, ![128, 128]⟩
abbrev S1x1x128 : Shape := ⟨3, ![1, 1, 128]⟩
abbrev S1 : Shape := ⟨1, ![1]⟩
abbrev S1x1x1 : Shape := ⟨3, ![1, 1, 1]⟩
abbrev S1x2000 : Shape := ⟨2, ![1, 2000]⟩
abbrev S1000 : Shape := ⟨1, ![1000]⟩
abbrev S1000x1 : Shape := ⟨2, ![1000, 1]⟩
abbrev S1000x4 : Shape := ⟨2, ![1000, 4]⟩
abbrev S1000x5 : Shape := ⟨2, ![1000, 5]⟩

abbrev nBuf : Space → Nat
  | .hbm => 169
  | .vmem => 23
  | .smem => 0
  | _ => 0

abbrev hbmTy0_0 (i : Nat) : BufTy := match i % 128 with
  | 0 => ⟨S20000x4, .f32⟩
  | 1 => ⟨S20000x4, .f32⟩
  | 2 => ⟨S20000, .f32⟩
  | 3 => ⟨S20000x1, .f32⟩
  | 4 => ⟨S20000, .f32⟩
  | 5 => ⟨S_, .i32⟩
  | 6 => ⟨S_, .f32⟩
  | 7 => ⟨S20480, .f32⟩
  | 8 => ⟨S160x128, .f32⟩
  | 9 => ⟨S20000x1, .f32⟩
  | 10 => ⟨S20000, .f32⟩
  | 11 => ⟨S_, .i32⟩
  | 12 => ⟨S_, .f32⟩
  | 13 => ⟨S20480, .f32⟩
  | 14 => ⟨S160x128, .f32⟩
  | 15 => ⟨S20000x1, .f32⟩
  | 16 => ⟨S20000, .f32⟩
  | 17 => ⟨S_, .i32⟩
  | 18 => ⟨S_, .f32⟩
  | 19 => ⟨S20480, .f32⟩
  | 20 => ⟨S160x128, .f32⟩
  | 21 => ⟨S20000x1, .f32⟩
  | 22 => ⟨S20000, .f32⟩
  | 23 => ⟨S_, .i32⟩
  | 24 => ⟨S_, .f32⟩
  | 25 => ⟨S20480, .f32⟩
  | 26 => ⟨S160x128, .f32⟩
  | 27 => ⟨S20000x1, .f32⟩
  | 28 => ⟨S20000, .f32⟩
  | 29 => ⟨S_, .i32⟩
  | 30 => ⟨S_, .f32⟩
  | 31 => ⟨S20480, .f32⟩
  | 32 => ⟨S160x128, .f32⟩
  | 33 => ⟨S20000x1, .f32⟩
  | 34 => ⟨S20000, .f32⟩
  | 35 => ⟨S_, .i32⟩
  | 36 => ⟨S_, .f32⟩
  | 37 => ⟨S20480, .f32⟩
  | 38 => ⟨S160x128, .f32⟩
  | 39 => ⟨S20000x1, .f32⟩
  | 40 => ⟨S20000, .f32⟩
  | 41 => ⟨S_, .i32⟩
  | 42 => ⟨S_, .f32⟩
  | 43 => ⟨S20480, .f32⟩
  | 44 => ⟨S160x128, .f32⟩
  | 45 => ⟨S20000x1, .f32⟩
  | 46 => ⟨S20000, .f32⟩
  | 47 => ⟨S_, .i32⟩
  | 48 => ⟨S_, .f32⟩
  | 49 => ⟨S20480, .f32⟩
  | 50 => ⟨S160x128, .f32⟩
  | 51 => ⟨S_, .i32⟩
  | 52 => ⟨S_, .f32⟩
  | 53 => ⟨S20480, .f32⟩
  | 54 => ⟨S160x128, .f32⟩
  | 55 => ⟨S160x128, .f32⟩
  | 56 => ⟨S160x128, .f32⟩
  | 57 => ⟨S160x128, .f32⟩
  | 58 => ⟨S160x128, .f32⟩
  | 59 => ⟨S160x128, .f32⟩
  | 60 => ⟨S20480, .f32⟩
  | 61 => ⟨S20000, .f32⟩
  | 62 => ⟨S20480, .f32⟩
  | 63 => ⟨S20000, .f32⟩
  | 64 => ⟨S20480, .f32⟩
  | 65 => ⟨S20000, .f32⟩
  | 66 => ⟨S20480, .f32⟩
  | 67 => ⟨S20000, .f32⟩
  | 68 => ⟨S20000x1, .f32⟩
  | 69 => ⟨S20000x1, .f32⟩
  | 70 => ⟨S20000x1, .f32⟩
  | 71 => ⟨S20000x1, .f32⟩
  | 72 => ⟨S20000x4, .f32⟩
  | 73 => ⟨S20480, .f32⟩
  | 74 => ⟨S20000, .f32⟩
  | 75 => ⟨S2000, .f32⟩
  | 76 => ⟨S2000, .i32⟩
  | 77 => ⟨S_, .i32⟩
  | 78 => ⟨S2000, .i32⟩
  | 79 => ⟨S2000, .i1⟩
  | 80 => ⟨S_, .i32⟩
  | 81 => ⟨S2000, .i32⟩
  | 82 => ⟨S2000, .i32⟩
  | 83 => ⟨S2000, .i32⟩
  | 84 => ⟨S2000x1, .i32⟩
  | 85 => ⟨S2000x4, .f32⟩
  | 86 => ⟨S_, .i32⟩
  | 87 => ⟨S_, .f32⟩
  | 88 => ⟨S2048x4, .f32⟩
  | 89 => ⟨S2048x1, .f32⟩
  | 90 => ⟨S2048, .f32⟩
  | 91 => ⟨S2048x1, .f32⟩
  | 92 => ⟨S2048x1, .f32⟩
  | 93 => ⟨S2048, .f32⟩
  | 94 => ⟨S2048x1, .f32⟩
  | 95 => ⟨S2048x1, .f32⟩
  | 96 => ⟨S2048, .f32⟩
  | 97 => ⟨S2048x1, .f32⟩
  | 98 => ⟨S2048x1, .f32⟩
  | 99 => ⟨S2048, .f32⟩
  | 100 => ⟨S2048x1, .f32⟩
  | 101 => ⟨S2048x1, .f32⟩
  | 102 => ⟨S2048, .f32⟩
  | 103 => ⟨S1x2048, .f32⟩
  | 104 => ⟨S2048x1, .f32⟩
  | 105 => ⟨S2048, .f32⟩
  | 106 => ⟨S1x2048, .f32⟩
  | 107 => ⟨S2048x1, .f32⟩
  | 108 => ⟨S2048, .f32⟩
  | 109 => ⟨S1x2048, .f32⟩
  | 110 => ⟨S2048x1, .f32⟩
  | 111 => ⟨S2048, .f32⟩
  | 112 => ⟨S1x2048, .f32⟩
  | 113 => ⟨S1x2048, .f32⟩
  | 114 => ⟨S1x2000, .f32⟩
  | 115 => ⟨S2000, .f32⟩
  | 116 => ⟨S_, .f32⟩
  | 117 => ⟨S2000, .f32⟩
  | 118 => ⟨S2000, .i1⟩
  | 119 => ⟨S_, .f32⟩
  | 120 => ⟨S2000, .f32⟩
  | 121 => ⟨S2000, .i1⟩
  | 122 => ⟨S2000, .i1⟩
  | 123 => ⟨S2000, .i32⟩
  | 124 => ⟨S_, .i32⟩
  | 125 => ⟨S_, .i32⟩
  | 126 => ⟨S2000, .i32⟩
  | 127 => ⟨S1, .i32⟩
  | _ => ⟨S20000x4, .f32⟩

abbrev hbmTy0_1 (i : Nat) : BufTy := match i % 128 with
  | 0 => ⟨S_, .i32⟩
  | 1 => ⟨S2000, .i32⟩
  | 2 => ⟨S_, .i32⟩
  | 3 => ⟨S2000, .i32⟩
  | 4 => ⟨S2000, .i32⟩
  | 5 => ⟨S2000, .i32⟩
  | 6 => ⟨S2000, .i32⟩
  | 7 => ⟨S2000, .i32⟩
  | 8 => ⟨S2000, .i32⟩
  | 9 => ⟨S_, .i32⟩
  | 10 => ⟨S2000, .i32⟩
  | 11 => ⟨S_, .i32⟩
  | 12 => ⟨S2000, .i32⟩
  | 13 => ⟨S2000, .i1⟩
  | 14 => ⟨S_, .i32⟩
  | 15 => ⟨S2000, .i32⟩
  | 16 => ⟨S2000, .i32⟩
  | 17 => ⟨S2000, .i32⟩
  | 18 => ⟨S2000x1, .i32⟩
  | 19 => ⟨S2000, .i32⟩
  | 20 => ⟨S1000, .i32⟩
  | 21 => ⟨S_, .i32⟩
  | 22 => ⟨S1000, .i32⟩
  | 23 => ⟨S1000, .i1⟩
  | 24 => ⟨S_, .i32⟩
  | 25 => ⟨S1000, .i32⟩
  | 26 => ⟨S1000, .i32⟩
  | 27 => ⟨S1000, .i32⟩
  | 28 => ⟨S1000x1, .i32⟩
  | 29 => ⟨S1000x4, .f32⟩
  | 30 => ⟨S_, .i32⟩
  | 31 => ⟨S1000, .i32⟩
  | 32 => ⟨S1000, .i1⟩
  | 33 => ⟨S_, .i32⟩
  | 34 => ⟨S1000, .i32⟩
  | 35 => ⟨S1000, .i32⟩
  | 36 => ⟨S1000, .i32⟩
  | 37 => ⟨S1000x1, .i32⟩
  | 38 => ⟨S1000, .f32⟩
  | 39 => ⟨S1000x1, .f32⟩
  | 40 => ⟨S1000x5, .f32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | .local _ .vmem, ⟨0, _⟩ => ⟨S160x128, .f32⟩
  | .local _ .vmem, ⟨1, _⟩ => ⟨S160x128, .f32⟩
  | .local _ .vmem, ⟨2, _⟩ => ⟨S160x128, .f32⟩
  | .local _ .vmem, ⟨3, _⟩ => ⟨S160x128, .f32⟩
  | .local _ .vmem, ⟨4, _⟩ => ⟨S160x128, .f32⟩
  | .local _ .vmem, ⟨5, _⟩ => ⟨S160x128, .f32⟩
  | .local _ .vmem, ⟨6, _⟩ => ⟨S160x128, .f32⟩
  | .local _ .vmem, ⟨7, _⟩ => ⟨S160x128, .f32⟩
  | .local _ .vmem, ⟨8, _⟩ => ⟨S160x128, .f32⟩
  | .local _ .vmem, ⟨9, _⟩ => ⟨S160x128, .f32⟩
  | .local _ .vmem, ⟨10, _⟩ => ⟨S160x128, .f32⟩
  | .local _ .vmem, ⟨11, _⟩ => ⟨S160x128, .f32⟩
  | .local _ .vmem, ⟨12, _⟩ => ⟨S160x128, .f32⟩
  | .local _ .vmem, ⟨13, _⟩ => ⟨S160x128, .f32⟩
  | .local _ .vmem, ⟨14, _⟩ => ⟨S2048x1, .f32⟩
  | .local _ .vmem, ⟨15, _⟩ => ⟨S2048x1, .f32⟩
  | .local _ .vmem, ⟨16, _⟩ => ⟨S2048x1, .f32⟩
  | .local _ .vmem, ⟨17, _⟩ => ⟨S2048x1, .f32⟩
  | .local _ .vmem, ⟨18, _⟩ => ⟨S1x2048, .f32⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | .local _ .vmem, ⟨22, _⟩ => ⟨S1x2048, .f32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_call2_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_call3_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_call4_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_call5_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_call6_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_call7_v0 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_call8_v0 : Ref sig .tc := ⟨.hbm, 52, rfl⟩
abbrev main_v32 : Ref sig .tc := ⟨.hbm, 53, rfl⟩
abbrev main_v33 : Ref sig .tc := ⟨.hbm, 54, rfl⟩
abbrev main_v34_0 : Ref sig .tc := ⟨.hbm, 55, rfl⟩
abbrev main_v34_1 : Ref sig .tc := ⟨.hbm, 56, rfl⟩
abbrev main_v34_2 : Ref sig .tc := ⟨.hbm, 57, rfl⟩
abbrev main_v34_3 : Ref sig .tc := ⟨.hbm, 58, rfl⟩
abbrev main_v34_4 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_values : Ref sig .tc := ⟨.hbm, 75, rfl⟩
abbrev main_indices : Ref sig .tc := ⟨.hbm, 76, rfl⟩
abbrev main_c_8 : Ref sig .tc := ⟨.hbm, 77, rfl⟩
abbrev main_v50 : Ref sig .tc := ⟨.hbm, 78, rfl⟩
abbrev main_v51 : Ref sig .tc := ⟨.hbm, 79, rfl⟩
abbrev main_c_9 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_10 : Ref sig .tc := ⟨.hbm, 86, rfl⟩
abbrev main_call9_v0 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst : Ref sig .tc := ⟨.hbm, 116, rfl⟩
abbrev main_v85 : Ref sig .tc := ⟨.hbm, 117, rfl⟩
abbrev main_v86 : Ref sig .tc := ⟨.hbm, 118, rfl⟩
abbrev main_cst_11 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_call10_call0_c : Ref sig .tc := ⟨.hbm, 124, rfl⟩
abbrev main_call10_call0_v0 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_12 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_c_13 : Ref sig .tc := ⟨.hbm, 137, rfl⟩
abbrev main_v101 : Ref sig .tc := ⟨.hbm, 138, rfl⟩
abbrev main_c_14 : Ref sig .tc := ⟨.hbm, 139, rfl⟩
abbrev main_v102 : Ref sig .tc := ⟨.hbm, 140, rfl⟩
abbrev main_v103 : Ref sig .tc := ⟨.hbm, 141, rfl⟩
abbrev main_c_15 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_c_16 : Ref sig .tc := ⟨.hbm, 149, rfl⟩
abbrev main_v110 : Ref sig .tc := ⟨.hbm, 150, rfl⟩
abbrev main_v111 : Ref sig .tc := ⟨.hbm, 151, rfl⟩
abbrev main_c_17 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_c_18 : Ref sig .tc := ⟨.hbm, 158, rfl⟩
abbrev main_v117 : Ref sig .tc := ⟨.hbm, 159, rfl⟩
abbrev main_v118 : Ref sig .tc := ⟨.hbm, 160, rfl⟩
abbrev main_c_19 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22

abbrev nD : Nat := 1
abbrev τ : Topo := Topo.v7x

variable {F : FTy → Type} [FloatOps F]

abbrev grid0 : Pipeline.Grid := .none

abbrev stage0_0 : Fin 1 → Memref sig .tc .vmem S160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S160x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S160x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S160x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S160x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S160x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S160x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S160x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c16_i32 : BitVec 32 := 16#32
  let v15 : BitVec 32 := Scalar.addi c0_i32 c16_i32
  let c1_i32 : BitVec 32 := 1#32
  ⟨c0_i32, v15, c1_i32⟩
def k1_off1 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v16 : BitVec 32 := Scalar.muli arg9 c128_i32
  let v17 : Index := Scalar.indexCast v16
  let c0_10 : Index := 0#32
  ![v17.toNat, 0]
def k1_off2 (k1_t1 : Fin k1_t1_loop.trips) : Fin 2 → Nat :=
  let c0_18 : Index := 0#32
  let c0_i32 : BitVec 32 := 0#32
  let c1_i32 : BitVec 32 := 1#32
  let arg9 : BitVec 32 := Scf.iv c0_i32 c1_i32 k1_t1
  let c128_i32 : BitVec 32 := 128#32
  let v16 : BitVec 32 := Scalar.muli arg9 c128_i32
  let v62 : Index := Scalar.indexCast v16
  ![0, v62.toNat]
@[reducible] def k1_t2_loop : Scf.Loop 32 :=
  let c0_i32_27 : BitVec 32 := 0#32
  let c128_i32_28 : BitVec 32 := 128#32
  let v110 : BitVec 32 := Scalar.addi c0_i32_27 c128_i32_28
  let c1_i32_29 : BitVec 32 := 1#32
  ⟨c0_i32_27, v110, c1_i32_29⟩
abbrev stage1_0 : Fin 1 → Memref sig .tc .vmem S2048x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2048x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2048x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2048x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
-- ==== ReferenceIdeal.lean ====
abbrev S20000x4 : Shape := ⟨2, ![20000, 4]⟩
abbrev S20000 : Shape := ⟨1, ![20000]⟩
abbrev S20000x1 : Shape := ⟨2, ![20000, 1]⟩
abbrev S_ : Shape := ⟨0, ![]⟩
abbrev S2000 : Shape := ⟨1, ![2000]⟩
abbrev S2000x1 : Shape := ⟨2, ![2000, 1]⟩
abbrev S2000x4 : Shape := ⟨2, ![2000, 4]⟩
abbrev S2000x2 : Shape := ⟨2, ![2000, 2]⟩
abbrev S2000x1x2 : Shape := ⟨3, ![2000, 1, 2]⟩
abbrev S1x2000x2 : Shape := ⟨3, ![1, 2000, 2]⟩
abbrev S2000x2000x2 : Shape := ⟨3, ![2000, 2000, 2]⟩
abbrev S2000x2000x1 : Shape := ⟨3, ![2000, 2000, 1]⟩
abbrev S2000x2000 : Shape := ⟨2, ![2000, 2000]⟩
abbrev S1x2000 : Shape := ⟨2, ![1, 2000]⟩
abbrev S1 : Shape := ⟨1, ![1]⟩
abbrev S1000 : Shape := ⟨1, ![1000]⟩
abbrev S1000x1 : Shape := ⟨2, ![1000, 1]⟩
abbrev S1000x4 : Shape := ⟨2, ![1000, 4]⟩
abbrev S1000x5 : Shape := ⟨2, ![1000, 5]⟩

abbrev nBuf : Space → Nat
  | .hbm => 267
  | .vmem => 0
  | .smem => 0
  | _ => 0

abbrev hbmTy0_0 (i : Nat) : BufTy := match i % 128 with
  | 0 => ⟨S20000x4, .f32⟩
  | 1 => ⟨S20000x4, .f32⟩
  | 2 => ⟨S20000, .f32⟩
  | 3 => ⟨S20000x1, .f32⟩
  | 4 => ⟨S20000, .f32⟩
  | 5 => ⟨S20000x1, .f32⟩
  | 6 => ⟨S20000, .f32⟩
  | 7 => ⟨S20000, .f32⟩
  | 8 => ⟨S20000x1, .f32⟩
  | 9 => ⟨S20000, .f32⟩
  | 10 => ⟨S20000x1, .f32⟩
  | 11 => ⟨S20000, .f32⟩
  | 12 => ⟨S20000, .f32⟩
  | 13 => ⟨S20000x1, .f32⟩
  | 14 => ⟨S20000, .f32⟩
  | 15 => ⟨S_, .f32⟩
  | 16 => ⟨S20000, .f32⟩
  | 17 => ⟨S20000, .f32⟩
  | 18 => ⟨S20000, .f32⟩
  | 19 => ⟨S20000x1, .f32⟩
  | 20 => ⟨S20000, .f32⟩
  | 21 => ⟨S_, .f32⟩
  | 22 => ⟨S20000, .f32⟩
  | 23 => ⟨S20000, .f32⟩
  | 24 => ⟨S20000, .f32⟩
  | 25 => ⟨S20000x1, .f32⟩
  | 26 => ⟨S20000, .f32⟩
  | 27 => ⟨S20000x1, .f32⟩
  | 28 => ⟨S20000, .f32⟩
  | 29 => ⟨S20000x1, .f32⟩
  | 30 => ⟨S20000, .f32⟩
  | 31 => ⟨S_, .f32⟩
  | 32 => ⟨S20000, .f32⟩
  | 33 => ⟨S20000, .f32⟩
  | 34 => ⟨S20000x1, .f32⟩
  | 35 => ⟨S20000, .f32⟩
  | 36 => ⟨S_, .f32⟩
  | 37 => ⟨S20000, .f32⟩
  | 38 => ⟨S20000, .f32⟩
  | 39 => ⟨S20000, .f32⟩
  | 40 => ⟨S20000, .f32⟩
  | 41 => ⟨S20000, .f32⟩
  | 42 => ⟨S20000, .f32⟩
  | 43 => ⟨S20000, .f32⟩
  | 44 => ⟨S20000, .f32⟩
  | 45 => ⟨S20000, .f32⟩
  | 46 => ⟨S20000, .f32⟩
  | 47 => ⟨S_, .f32⟩
  | 48 => ⟨S20000, .f32⟩
  | 49 => ⟨S20000, .f32⟩
  | 50 => ⟨S20000, .f32⟩
  | 51 => ⟨S_, .f32⟩
  | 52 => ⟨S20000, .f32⟩
  | 53 => ⟨S20000, .f32⟩
  | 54 => ⟨S20000, .f32⟩
  | 55 => ⟨S_, .f32⟩
  | 56 => ⟨S20000, .f32⟩
  | 57 => ⟨S20000, .f32⟩
  | 58 => ⟨S20000, .f32⟩
  | 59 => ⟨S_, .f32⟩
  | 60 => ⟨S20000, .f32⟩
  | 61 => ⟨S20000, .f32⟩
  | 62 => ⟨S20000, .f32⟩
  | 63 => ⟨S20000x1, .f32⟩
  | 64 => ⟨S20000x1, .f32⟩
  | 65 => ⟨S20000x1, .f32⟩
  | 66 => ⟨S20000x1, .f32⟩
  | 67 => ⟨S20000x4, .f32⟩
  | 68 => ⟨S20000x1, .f32⟩
  | 69 => ⟨S20000, .f32⟩
  | 70 => ⟨S_, .f32⟩
  | 71 => ⟨S_, .f32⟩
  | 72 => ⟨S_, .f32⟩
  | 73 => ⟨S20000, .f32⟩
  | 74 => ⟨S20000, .f32⟩
  | 75 => ⟨S_, .f32⟩
  | 76 => ⟨S20000, .f32⟩
  | 77 => ⟨S20000, .f32⟩
  | 78 => ⟨S20000x1, .f32⟩
  | 79 => ⟨S20000, .f32⟩
  | 80 => ⟨S_, .f32⟩
  | 81 => ⟨S_, .f32⟩
  | 82 => ⟨S_, .f32⟩
  | 83 => ⟨S20000, .f32⟩
  | 84 => ⟨S20000, .f32⟩
  | 85 => ⟨S_, .f32⟩
  | 86 => ⟨S20000, .f32⟩
  | 87 => ⟨S20000, .f32⟩
  | 88 => ⟨S20000x1, .f32⟩
  | 89 => ⟨S20000, .f32⟩
  | 90 => ⟨S_, .f32⟩
  | 91 => ⟨S_, .f32⟩
  | 92 => ⟨S_, .f32⟩
  | 93 => ⟨S20000, .f32⟩
  | 94 => ⟨S20000, .f32⟩
  | 95 => ⟨S_, .f32⟩
  | 96 => ⟨S20000, .f32⟩
  | 97 => ⟨S20000, .f32⟩
  | 98 => ⟨S20000x1, .f32⟩
  | 99 => ⟨S20000, .f32⟩
  | 100 => ⟨S_, .f32⟩
  | 101 => ⟨S_, .f32⟩
  | 102 => ⟨S_, .f32⟩
  | 103 => ⟨S20000, .f32⟩
  | 104 => ⟨S20000, .f32⟩
  | 105 => ⟨S_, .f32⟩
  | 106 => ⟨S20000, .f32⟩
  | 107 => ⟨S20000, .f32⟩
  | 108 => ⟨S20000x1, .f32⟩
  | 109 => ⟨S20000x1, .f32⟩
  | 110 => ⟨S20000x1, .f32⟩
  | 111 => ⟨S20000x1, .f32⟩
  | 112 => ⟨S20000x4, .f32⟩
  | 113 => ⟨S20000x1, .f32⟩
  | 114 => ⟨S20000, .f32⟩
  | 115 => ⟨S20000x1, .f32⟩
  | 116 => ⟨S20000, .f32⟩
  | 117 => ⟨S20000, .f32⟩
  | 118 => ⟨S20000x1, .f32⟩
  | 119 => ⟨S20000, .f32⟩
  | 120 => ⟨S20000x1, .f32⟩
  | 121 => ⟨S20000, .f32⟩
  | 122 => ⟨S20000, .f32⟩
  | 123 => ⟨S_, .f32⟩
  | 124 => ⟨S20000, .f32⟩
  | 125 => ⟨S20000, .i1⟩
  | 126 => ⟨S_, .f32⟩
  | 127 => ⟨S20000, .f32⟩
  | _ => ⟨S20000x4, .f32⟩

abbrev hbmTy0_1 (i : Nat) : BufTy := match i % 128 with
  | 0 => ⟨S20000, .i1⟩
  | 1 => ⟨S20000, .i1⟩
  | 2 => ⟨S_, .f32⟩
  | 3 => ⟨S_, .f32⟩
  | 4 => ⟨S20000, .f32⟩
  | 5 => ⟨S20000, .f32⟩
  | 6 => ⟨S2000, .f32⟩
  | 7 => ⟨S2000, .i32⟩
  | 8 => ⟨S_, .i32⟩
  | 9 => ⟨S2000, .i32⟩
  | 10 => ⟨S2000, .i1⟩
  | 11 => ⟨S_, .i32⟩
  | 12 => ⟨S2000, .i32⟩
  | 13 => ⟨S2000, .i32⟩
  | 14 => ⟨S2000, .i32⟩
  | 15 => ⟨S2000x1, .i32⟩
  | 16 => ⟨S2000x4, .f32⟩
  | 17 => ⟨S2000x1, .f32⟩
  | 18 => ⟨S2000, .f32⟩
  | 19 => ⟨S2000x1, .f32⟩
  | 20 => ⟨S2000, .f32⟩
  | 21 => ⟨S2000, .f32⟩
  | 22 => ⟨S2000x1, .f32⟩
  | 23 => ⟨S2000, .f32⟩
  | 24 => ⟨S2000x1, .f32⟩
  | 25 => ⟨S2000, .f32⟩
  | 26 => ⟨S2000, .f32⟩
  | 27 => ⟨S2000, .f32⟩
  | 28 => ⟨S2000x2, .f32⟩
  | 29 => ⟨S2000x1x2, .f32⟩
  | 30 => ⟨S2000x2, .f32⟩
  | 31 => ⟨S1x2000x2, .f32⟩
  | 32 => ⟨S2000x2000x2, .f32⟩
  | 33 => ⟨S2000x2000x2, .f32⟩
  | 34 => ⟨S2000x2000x2, .f32⟩
  | 35 => ⟨S2000x2, .f32⟩
  | 36 => ⟨S2000x1x2, .f32⟩
  | 37 => ⟨S2000x2, .f32⟩
  | 38 => ⟨S1x2000x2, .f32⟩
  | 39 => ⟨S2000x2000x2, .f32⟩
  | 40 => ⟨S2000x2000x2, .f32⟩
  | 41 => ⟨S2000x2000x2, .f32⟩
  | 42 => ⟨S2000x2000x2, .f32⟩
  | 43 => ⟨S_, .f32⟩
  | 44 => ⟨S_, .f32⟩
  | 45 => ⟨S2000x2000x2, .f32⟩
  | 46 => ⟨S2000x2000x2, .f32⟩
  | 47 => ⟨S2000x2000x1, .f32⟩
  | 48 => ⟨S2000x2000, .f32⟩
  | 49 => ⟨S2000x2000x1, .f32⟩
  | 50 => ⟨S2000x2000, .f32⟩
  | 51 => ⟨S2000x2000, .f32⟩
  | 52 => ⟨S2000x1, .f32⟩
  | 53 => ⟨S1x2000, .f32⟩
  | 54 => ⟨S2000x2000, .f32⟩
  | 55 => ⟨S2000x2000, .f32⟩
  | 56 => ⟨S2000x2000, .f32⟩
  | 57 => ⟨S2000x2000, .f32⟩
  | 58 => ⟨S_, .f32⟩
  | 59 => ⟨S2000x2000, .f32⟩
  | 60 => ⟨S2000x2000, .f32⟩
  | 61 => ⟨S2000x2000, .f32⟩
  | 62 => ⟨S2000, .i32⟩
  | 63 => ⟨S_, .i1⟩
  | 64 => ⟨S2000, .i1⟩
  | 65 => ⟨S_, .i32⟩
  | 66 => ⟨S_, .i32⟩
  | 67 => ⟨S2000x2000, .f32⟩
  | 68 => ⟨S2000, .i32⟩
  | 69 => ⟨S_, .i32⟩
  | 70 => ⟨S_, .i32⟩
  | 71 => ⟨S2000, .i1⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i32⟩
  | 90 => ⟨S1x2000, .f32⟩
  | 91 => ⟨S2000, .f32⟩
  | 92 => ⟨S_, .f32⟩
  | 93 => ⟨S2000, .f32⟩
  | 94 => ⟨S2000, .i1⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S1, .i1⟩
  | 102 => ⟨S_, .i1⟩
  | 103 => ⟨S2000, .i1⟩
  | 104 => ⟨S2000, .i1⟩
  | 105 => ⟨S_, .i32⟩
  | 106 => ⟨S2000, .i32⟩
  | 107 => ⟨S2000, .i1⟩
  | 108 => ⟨S2000, .i1⟩
  | 109 => ⟨S2000, .i1⟩
  | 110 => ⟨S2000, .i1⟩
  | 111 => ⟨S_, .i32⟩
  | 112 => ⟨S_, .i32⟩
  | 113 => ⟨S_, .f32⟩
  | 114 => ⟨S_, .f32⟩
  | 115 => ⟨S2000, .f32⟩
  | 116 => ⟨S2000, .f32⟩
  | 117 => ⟨S1000, .f32⟩
  | 118 => ⟨S1000, .i32⟩
  | 119 => ⟨S_, .i32⟩
  | 120 => ⟨S1000, .i32⟩
  | 121 => ⟨S1000, .i1⟩
  | 122 => ⟨S_, .i32⟩
  | 123 => ⟨S1000, .i32⟩
  | 124 => ⟨S1000, .i32⟩
  | 125 => ⟨S1000, .i32⟩
  | 126 => ⟨S1000x1, .i32⟩
  | 127 => ⟨S1000x4, .f32⟩
  | _ => ⟨S20000x4, .f32⟩

abbrev hbmTy0_2 (i : Nat) : BufTy := match i % 128 with
  | 0 => ⟨S_, .i32⟩
  | 1 => ⟨S1000, .i32⟩
  | 2 => ⟨S1000, .i1⟩
  | 3 => ⟨S_, .i32⟩
  | 4 => ⟨S1000, .i32⟩
  | 5 => ⟨S1000, .i32⟩
  | 6 => ⟨S1000, .i32⟩
  | 7 => ⟨S1000x1, .i32⟩
  | 8 => ⟨S1000, .f32⟩
  | 9 => ⟨S1000x1, .f32⟩
  | 10 => ⟨S1000x5, .f32⟩
  | _ => ⟨S20000x4, .f32⟩

abbrev hbmTy (i : Nat) : BufTy := match i / 128 with
  | 0 => hbmTy0_0 i
  | 1 => hbmTy0_1 i
  | 2 => hbmTy0_2 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_7 : Ref sig .tc := ⟨.hbm, 70, rfl⟩
abbrev main_cst_8 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_9 : Ref sig .tc := ⟨.hbm, 80, rfl⟩
abbrev main_cst_10 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_11 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_13 : Ref sig .tc := ⟨.hbm, 100, rfl⟩
abbrev main_cst_14 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_15 : Ref sig .tc := ⟨.hbm, 123, rfl⟩
abbrev main_v84 : Ref sig .tc := ⟨.hbm, 124, rfl⟩
abbrev main_v85 : Ref sig .tc := ⟨.hbm, 125, rfl⟩
abbrev main_cst_16 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_17 : Ref sig .tc := ⟨.hbm, 130, rfl⟩
abbrev main_call4_v0 : Ref sig .tc := ⟨.hbm, 131, rfl⟩
abbrev main_call4_v1 : Ref sig .tc := ⟨.hbm, 132, rfl⟩
abbrev main_v89 : Ref sig .tc := ⟨.hbm, 133, rfl⟩
abbrev main_values : Ref sig .tc := ⟨.hbm, 134, rfl⟩
abbrev main_indices : Ref sig .tc := ⟨.hbm, 135, rfl⟩
abbrev main_c : Ref sig .tc := ⟨.hbm, 136, rfl⟩
abbrev main_v90 : Ref sig .tc := ⟨.hbm, 137, rfl⟩
abbrev main_v91 : Ref sig .tc := ⟨.hbm, 138, rfl⟩
abbrev main_c_18 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_cst_19 : Ref sig .tc := ⟨.hbm, 171, rfl⟩
abbrev main_call5_v0 : Ref sig .tc := ⟨.hbm, 172, rfl⟩
abbrev main_call5_v1 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_cst_20 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_c_21 : Ref sig .tc := ⟨.hbm, 191, rfl⟩
abbrev main_v139 : Ref sig .tc := ⟨.hbm, 192, rfl⟩
abbrev main_c_22 : Ref sig .tc := ⟨.hbm, 193, rfl⟩
abbrev main_c_23 : Ref sig .tc := ⟨.hbm, 194, rfl⟩
abbrev main_v140_0 : Ref sig .tc := ⟨.hbm, 195, rfl⟩
abbrev main_v140_1 : Ref sig .tc := ⟨.hbm, 196, rfl⟩
abbrev main_v140_2 : Ref sig .tc := ⟨.hbm, 197, rfl⟩
abbrev main_v140_3 : Ref sig .tc := ⟨.hbm, 198, rfl⟩
abbrev main_v140_4 : Ref sig .tc := ⟨.hbm, 199, rfl⟩
abbrev main_while0c_c_35 : Ref sig .tc := ⟨.hbm, 200, rfl⟩
abbrev main_while0c_v158 : Ref sig .tc := ⟨.hbm, 201, rfl⟩
abbrev main_while0b_c_35 : Ref sig .tc := ⟨.hbm, 202, rfl⟩
abbrev main_while0b_v158 : Ref sig .tc := ⟨.hbm, 203, rfl⟩
abbrev main_while0b_v159 : Ref sig .tc := ⟨.hbm, 204, rfl⟩
abbrev main_while0b_c_36 : Ref sig .tc := ⟨.hbm, 205, rfl⟩
abbrev main_while0b_v160 : Ref sig .tc := ⟨.hbm, 206, rfl⟩
abbrev main_while0b_c_37 : Ref sig .tc := ⟨.hbm, 207, rfl⟩
abbrev main_while0b_v161 : Ref sig .tc := ⟨.hbm, 208, rfl⟩
abbrev main_while0b_v162 : Ref sig .tc := ⟨.hbm, 209, rfl⟩
abbrev main_while0b_c_38 : Ref sig .tc := ⟨.hbm, 210, rfl⟩
abbrev main_while0b_c_39 : Ref sig .tc := ⟨.hbm, 211, rfl⟩
abbrev main_while0b_v163 : Ref sig .tc := ⟨.hbm, 212, rfl⟩
abbrev main_while0b_c_40 : Ref sig .tc := ⟨.hbm, 213, rfl⟩
abbrev main_while0b_c_41 : Ref sig .tc := ⟨.hbm, 214, rfl⟩
abbrev main_while0b_v164 : Ref sig .tc := ⟨.hbm, 215, rfl⟩
abbrev main_while0b_c_42 : Ref sig .tc := ⟨.hbm, 216, rfl⟩
abbrev main_while0b_v165 : Ref sig .tc := ⟨.hbm, 217, rfl⟩
abbrev main_while0b_v166 : Ref sig .tc := ⟨.hbm, 218, rfl⟩
abbrev main_while0b_v167 : Ref sig .tc := ⟨.hbm, 219, rfl⟩
abbrev main_while0b_cst_43 : Ref sig .tc := ⟨.hbm, 220, rfl⟩
abbrev main_while0b_v168 : Ref sig .tc := ⟨.hbm, 221, rfl⟩
abbrev main_while0b_v169 : Ref sig .tc := ⟨.hbm, 222, rfl⟩
abbrev main_while0b_c_44 : Ref sig .tc := ⟨.hbm, 223, rfl⟩
abbrev main_while0b_v170 : Ref sig .tc := ⟨.hbm, 224, rfl⟩
abbrev main_while0b_v171 : Ref sig .tc := ⟨.hbm, 225, rfl⟩
abbrev main_while0b_c_45 : Ref sig .tc := ⟨.hbm, 226, rfl⟩
abbrev main_while0b_v172 : Ref sig .tc := ⟨.hbm, 227, rfl⟩
abbrev main_while0b_v173 : Ref sig .tc := ⟨.hbm, 228, rfl⟩
abbrev main_while0b_v174 : Ref sig .tc := ⟨.hbm, 229, rfl⟩
abbrev main_while0b_v175 : Ref sig .tc := ⟨.hbm, 230, rfl⟩
abbrev main_while0b_v176 : Ref sig .tc := ⟨.hbm, 231, rfl⟩
abbrev main_while0b_v177 : Ref sig .tc := ⟨.hbm, 232, rfl⟩
abbrev main_while0b_v178 : Ref sig .tc := ⟨.hbm, 233, rfl⟩
abbrev main_while0b_v179 : Ref sig .tc := ⟨.hbm, 234, rfl⟩
abbrev main_while0b_v180 : Ref sig .tc := ⟨.hbm, 235, rfl⟩
abbrev main_while0b_v181 : Ref sig .tc := ⟨.hbm, 236, rfl⟩
abbrev main_while0b_v182 : Ref sig .tc := ⟨.hbm, 237, rfl⟩
abbrev main_while0b_v183 : Ref sig .tc := ⟨.hbm, 238, rfl⟩
abbrev main_while0b_c_46 : Ref sig .tc := ⟨.hbm, 239, rfl⟩
abbrev main_while0b_v184 : Ref sig .tc := ⟨.hbm, 240, rfl⟩
abbrev main_cst_24 : Ref sig .tc := ⟨.hbm, 241, rfl⟩
abbrev main_call6_v0 : Ref sig .tc := ⟨.hbm, 242, rfl⟩
abbrev main_call6_v1 : Ref sig .tc := ⟨.hbm, 243, rfl⟩
abbrev main_v141 : Ref sig .tc := ⟨.hbm, 244, rfl⟩
abbrev main_values_25 : Ref sig .tc := ⟨.hbm, 245, rfl⟩
abbrev main_indices_26 : Ref sig .tc := ⟨.hbm, 246, rfl⟩
abbrev main_c_27 : Ref sig .tc := ⟨.hbm, 247, rfl⟩
abbrev main_v142 : Ref sig .tc := ⟨.hbm, 248, rfl⟩
abbrev main_v143 : Ref sig .tc := ⟨.hbm, 249, rfl⟩
abbrev main_c_28 : Ref sig .tc := ⟨.hbm, 250, rfl⟩
abbrev main_v144 : Ref sig .tc := ⟨.hbm, 251, rfl⟩
abbrev main_v145 : Ref sig .tc := ⟨.hbm, 252, rfl⟩
abbrev main_v146 : Ref sig .tc := ⟨.hbm, 253, rfl⟩
abbrev main_v147 : Ref sig .tc := ⟨.hbm, 254, rfl⟩
abbrev main_v148 : Ref sig .tc := ⟨.hbm, 255, rfl⟩
abbrev main_c_29 : Ref sig .tc := ⟨.hbm, 256, rfl⟩
abbrev main_v149 : Ref sig .tc := ⟨.hbm, 257, rfl⟩
abbrev main_v150 : Ref sig .tc := ⟨.hbm, 258, rfl⟩
abbrev main_c_30 : Ref sig .tc := ⟨.hbm, 259, rfl⟩
abbrev main_v151 : Ref sig .tc := ⟨.hbm, 260, rfl⟩
abbrev main_v152 : Ref sig .tc := ⟨.hbm, 261, rfl⟩
abbrev main_v153 : Ref sig .tc := ⟨.hbm, 262, rfl⟩
abbrev main_v154 : Ref sig .tc := ⟨.hbm, 263, rfl⟩
abbrev main_v155 : Ref sig .tc := ⟨.hbm, 264, rfl⟩
abbrev main_v156 : Ref sig .tc := ⟨.hbm, 265, rfl⟩
abbrev main_v157 : Ref sig .tc := ⟨.hbm, 266, rfl⟩

abbrev nD : Nat := 1
abbrev τ : Topo := Topo.v7x

variable {F : FTy → Type} [FloatOps F]

abbrev main_while0_count : Scf.Loop 32 := ⟨0#32, 2000#32, 1#32⟩
-- ==== Proof.NmsLoopKernelIdeal.lean ====
/- The loop of the suppression kernel over its sixteen tiles of 128 boxes: what one trip writes into the keep row, and
   the loop's invariant (`KernelIdeal`). -/
module

public import proofs.«01_k».proof.Proof.Gen.KernelIdeal.Skeleton
public import proofs.«01_k».proof.Proof.Gen.KernelIdeal.Loops
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The lane numbers 0 … 127 of a tile. -/
abbrev lanes : IVec S1x128 32 := iota .tc S1x128 32 [1] iota_S1x128_d1_w32

/-- Tile `k` of a column of 2048 coordinates. -/
abbrev colTile (x : Vec F S2048x1 .f32) (k : Fin k1_t1_loop.trips) : Vec F S128x1 .f32 :=
  VecWindow.window x (k1_off1 k) S128x1.size (k1_off1_inb k)
/-- Tile `k` of a row of 2048 values. -/
abbrev rowTile (x : Vec F S1x2048 .f32) (k : Fin k1_t1_loop.trips) : Vec F S1x128 .f32 :=
  VecWindow.window x (k1_off2 k) S1x128.size (k1_off2_inb k)

/-- The keep flags of tile `k` after its 128 sequential steps, the keep row being `b` when the tile is entered. -/
def tileKeep (x0 x1 x2 x3 : Vec F S2048x1 .f32) (x4 x5 x6 x7 : Vec F S1x2048 .f32) (k : Fin k1_t1_loop.trips) (b : Vec F S1x2048 .f32) : FVec F S1x128 .f32 :=
  Scf.fold (fun k2 acc => k1_pay16 lanes (k1_pay8 (colTile x0 k)) (k1_pay9 (colTile x1 k)) (k1_pay10 (colTile x2 k)) (k1_pay11 (colTile x3 k))
    (k1_pay12 (colTile x0 k) (colTile x1 k) (colTile x2 k) (colTile x3 k)) (k1_pay14 (rowTile x4 k)) (rowTile x5 k) (rowTile x6 k) (rowTile x7 k) k2 acc)
    (k1_pay15 (rowTile b k))

/-- The overlap flags of tile `k`'s boxes against all 2048. -/
def tileHits (x0 x1 x2 x3 : Vec F S2048x1 .f32) (x4 x5 x6 x7 : Vec F S1x2048 .f32) (k : Fin k1_t1_loop.trips) : FVec F S128x2048 .f32 :=
  k1_pay13 (k1_pay1 x4) (k1_pay2 x5) (k1_pay3 x6) (k1_pay4 x7) (k1_pay5 x4 x5 x6 x7) (colTile x0 k) (colTile x1 k) (colTile x2 k) (colTile x3 k)

/-- The keep row after trip `k`, from the keep row `b` before it. -/
def tripKeep (x0 x1 x2 x3 : Vec F S2048x1 .f32) (x4 x5 x6 x7 : Vec F S1x2048 .f32) (k : Fin k1_t1_loop.trips) (b : Vec F S1x2048 .f32) : Vec F S1x2048 .f32 :=
  k1_pay7 (Scalar.muli (Scf.iv 0#32 1#32 k) 128#32) (tileHits x0 x1 x2 x3 x4 x5 x6 x7 k) (tileKeep x0 x1 x2 x3 x4 x5 x6 x7 k b)
    (VecWindow.put b (k1_off2 k) S1x128.size (tileKeep x0 x1 x2 x3 x4 x5 x6 x7 k b))

/-- The keep row before trip `k`: all ones, then a trip at a time. -/
def keepAt (x0 x1 x2 x3 : Vec F S2048x1 .f32) (x4 x5 x6 x7 : Vec F S1x2048 .f32) : ℕ → Vec F S1x2048 .f32
  | 0 => k1_pay6
  | k + 1 => if h : k < k1_t1_loop.trips then tripKeep x0 x1 x2 x3 x4 x5 x6 x7 ⟨k, h⟩ (keepAt x0 x1 x2 x3 x4 x5 x6 x7 k) else keepAt x0 x1 x2 x3 x4 x5 x6 x7 k

theorem keepAt_succ (x0 x1 x2 x3 : Vec F S2048x1 .f32) (x4 x5 x6 x7 : Vec F S1x2048 .f32) (k : Fin k1_t1_loop.trips) : keepAt x0 x1 x2 x3 x4 x5 x6 x7 (k.val + 1) = tripKeep x0 x1 x2 x3 x4 x5 x6 x7 k (keepAt x0 x1 x2 x3 x4 x5 x6 x7 k.val) := by
  rw [keepAt, dif_pos k.isLt]

/-- The two stores of trip `k` into the keep row, last first. -/
def tripPieces (x0 x1 x2 x3 : Vec F S2048x1 .f32) (x4 x5 x6 x7 : Vec F S1x2048 .f32) (k : Fin k1_t1_loop.trips) (b : Vec F S1x2048 .f32) : List (View.Piece (Elt F) S1x2048 .f32) :=
  [⟨Rect.unit (s := S1x2048) ![0, 0] S1x2048.size inb_S1x2048_S1x2048_0_0, tripKeep x0 x1 x2 x3 x4 x5 x6 x7 k b⟩,
   ⟨Rect.unit (s := S1x2048) (k1_off2 k) S1x128.size (k1_off2_inb k), tileKeep x0 x1 x2 x3 x4 x5 x6 x7 k b⟩]

/-- The stores of the trips before `k`, last first, over a buffer holding `g`. -/
def piecesBefore (v : View sig .tc .vmem S1x2048 .f32) (g : v.ty.Contents (Elt F)) (x0 x1 x2 x3 : Vec F S2048x1 .f32) (x4 x5 x6 x7 : Vec F S1x2048 .f32) : ℕ → List (View.Piece (Elt F) S1x2048 .f32)
  | 0 => []
  | k + 1 => if h : k < k1_t1_loop.trips then
      tripPieces x0 x1 x2 x3 x4 x5 x6 x7 ⟨k, h⟩ (v.read (Elt F) (v.writes (Elt F) g (piecesBefore v g x0 x1 x2 x3 x4 x5 x6 x7 k))) ++ piecesBefore v g x0 x1 x2 x3 x4 x5 x6 x7 k
    else piecesBefore v g x0 x1 x2 x3 x4 x5 x6 x7 k

theorem piecesBefore_succ (v : View sig .tc .vmem S1x2048 .f32) (g : v.ty.Contents (Elt F)) (x0 x1 x2 x3 : Vec F S2048x1 .f32) (x4 x5 x6 x7 : Vec F S1x2048 .f32) (k : Fin k1_t1_loop.trips) :
    piecesBefore v g x0 x1 x2 x3 x4 x5 x6 x7 (k.val + 1)
      = tripPieces x0 x1 x2 x3 x4 x5 x6 x7 k (v.read (Elt F) (v.writes (Elt F) g (piecesBefore v g x0 x1 x2 x3 x4 x5 x6 x7 k.val))) ++ piecesBefore v g x0 x1 x2 x3 x4 x5 x6 x7 k.val := by
  rw [piecesBefore, dif_pos k.isLt]

/-- A buffer that enters the loop at all ones holds `keepAt k` before trip `k`. -/
theorem read_piecesBefore (v : View sig .tc .vmem S1x2048 .f32) (g : v.ty.Contents (Elt F)) (x0 x1 x2 x3 : Vec F S2048x1 .f32) (x4 x5 x6 x7 : Vec F S1x2048 .f32) (hg : v.read (Elt F) g = k1_pay6) (k : ℕ) :
    v.read (Elt F) (v.writes (Elt F) g (piecesBefore v g x0 x1 x2 x3 x4 x5 x6 x7 k)) = keepAt x0 x1 x2 x3 x4 x5 x6 x7 k := by
  induction k with
  | zero => exact hg
  | succ k ih =>
    by_cases h : k < k1_t1_loop.trips
    · rw [piecesBefore, dif_pos h, keepAt, dif_pos h, tripPieces, List.cons_append, View.read_writes_full, ih]
    · rw [piecesBefore, dif_neg h, keepAt, dif_neg h, ih]

/-- The invariant before trip `k`: the eight coordinate buffers untouched, the keep row's buffer at what the trips before have stored. -/
abbrev nmsInv (c : Dev nD) (arg0 : Memref sig .tc .vmem S2048x1 .f32) (arg1 : Memref sig .tc .vmem S2048x1 .f32) (arg2 : Memref sig .tc .vmem S2048x1 .f32) (arg3 : Memref sig .tc .vmem S2048x1 .f32) (arg4 : Memref sig .tc .vmem S1x2048 .f32) (arg5 : Memref sig .tc .vmem S1x2048 .f32) (arg6 : Memref sig .tc .vmem S1x2048 .f32) (arg7 : Memref sig .tc .vmem S1x2048 .f32) (arg8 : Memref sig .tc .vmem S1x2048 .f32)
    (f0 : Buf (Elt F) (arg0.view.loc (c : Thread nD τ))) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (g : Buf (Elt F) (arg8.view.loc (c : Thread nD τ))) (k : ℕ) : sProp 𝕄 :=
  iprop((arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7)
    ∗ (∃ f, (arg8.view.loc (c : Thread nD τ) ↦[arg8.view.set]{fullShare} f) ∗ ⌜f = arg8.view.writes (Elt F) g (piecesBefore arg8.view g (arg0.view.read (Elt F) f0) (arg1.view.read (Elt F) f1) (arg2.view.read (Elt F) f2) (arg3.view.read (Elt F) f3) (arg4.view.read (Elt F) f4) (arg5.view.read (Elt F) f5) (arg6.view.read (Elt F) f6) (arg7.view.read (Elt F) f7) k)⌝))

set_option maxHeartbeats 4000000 in
/-- One trip carries the invariant on. -/
theorem nms_step (c : Dev nD) (arg0 : Memref sig .tc .vmem S2048x1 .f32) (harg0 : arg0.IsWhole) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole)
    (f0 : Buf (Elt F) (arg0.view.loc (c : Thread nD τ))) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (g : Buf (Elt F) (arg8.view.loc (c : Thread nD τ))) (k : Fin k1_t1_loop.trips) (acc : Unit) :
    nmsInv c arg0 arg1 arg2 arg3 arg4 arg5 arg6 arg7 arg8 f0 f1 f2 f3 f4 f5 f6 f7 g k.val
      ⊢ wp frame (wpE (defs₀ (F := F)) Variants.none (c : Thread nD τ) none) Set.univ
        (k1_t1_body arg0 harg0 arg1 harg1 arg2 harg2 arg3 harg3 arg4 harg4 arg5 harg5 arg6 harg6 arg7 harg7 arg8 harg8 (arg4.view.read (Elt F) f4) (arg5.view.read (Elt F) f5) (arg6.view.read (Elt F) f6) (arg7.view.read (Elt F) f7) lanes k acc)
        (fun _ => nmsInv c arg0 arg1 arg2 arg3 arg4 arg5 arg6 arg7 arg8 f0 f1 f2 f3 f4 f5 f6 f7 g (k.val + 1)) := by
  unfold nmsInv k1_t1_body
  simp only [k1_part1_eq_skeleton, k1_part2_eq_skeleton]
  iintro ⟨H0, H1, H2, H3, H4, H5, H6, H7, ⟨%f, H8, %hf⟩⟩
  sl_exec
  sl_step
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; isplitl [H8]; · iexact H8
  ipureintro
  rw [piecesBefore_succ, View.writes_append, ← hf]
  change arg8.view.writes (Elt F) f (⟨Rect.unit (s := S1x2048) ![0, 0] S1x2048.size inb_S1x2048_S1x2048_0_0,
      k1_pay7 (Scalar.muli (Scf.iv 0#32 1#32 k) 128#32) (tileHits (arg0.view.read (Elt F) f0) (arg1.view.read (Elt F) f1) (arg2.view.read (Elt F) f2) (arg3.view.read (Elt F) f3) (arg4.view.read (Elt F) f4) (arg5.view.read (Elt F) f5) (arg6.view.read (Elt F) f6) (arg7.view.read (Elt F) f7) k) (tileKeep (arg0.view.read (Elt F) f0) (arg1.view.read (Elt F) f1) (arg2.view.read (Elt F) f2) (arg3.view.read (Elt F) f3) (arg4.view.read (Elt F) f4) (arg5.view.read (Elt F) f5) (arg6.view.read (Elt F) f6) (arg7.view.read (Elt F) f7) k (arg8.view.read (Elt F) f))
        (View.readAt (Elt F) arg8.view (Rect.unit (s := S1x2048) ![0, 0] S1x2048.size inb_S1x2048_S1x2048_0_0).toLoadRect
          (arg8.view.writes (Elt F) f [⟨Rect.unit (s := S1x2048) (k1_off2 k) S1x128.size (k1_off2_inb k), tileKeep (arg0.view.read (Elt F) f0) (arg1.view.read (Elt F) f1) (arg2.view.read (Elt F) f2) (arg3.view.read (Elt F) f3) (arg4.view.read (Elt F) f4) (arg5.view.read (Elt F) f5) (arg6.view.read (Elt F) f6) (arg7.view.read (Elt F) f7) k (arg8.view.read (Elt F) f)⟩]))⟩
      :: [⟨Rect.unit (s := S1x2048) (k1_off2 k) S1x128.size (k1_off2_inb k), tileKeep (arg0.view.read (Elt F) f0) (arg1.view.read (Elt F) f1) (arg2.view.read (Elt F) f2) (arg3.view.read (Elt F) f3) (arg4.view.read (Elt F) f4) (arg5.view.read (Elt F) f5) (arg6.view.read (Elt F) f6) (arg7.view.read (Elt F) f7) k (arg8.view.read (Elt F) f)⟩]) = _
  have e := (View.readAt_full arg8.view (arg8.view.writes (Elt F) f [⟨Rect.unit (s := S1x2048) (k1_off2 k) S1x128.size (k1_off2_inb k), tileKeep (arg0.view.read (Elt F) f0) (arg1.view.read (Elt F) f1) (arg2.view.read (Elt F) f2) (arg3.view.read (Elt F) f3) (arg4.view.read (Elt F) f4) (arg5.view.read (Elt F) f5) (arg6.view.read (Elt F) f6) (arg7.view.read (Elt F) f7) k (arg8.view.read (Elt F) f)⟩]) inb_S1x2048_S1x2048_0_0).trans
    (View.read_writes_cons_put (Val := Elt F) (s := S1x2048) arg8.view f (k1_off2_inb k) (tileKeep (arg0.view.read (Elt F) f0) (arg1.view.read (Elt F) f1) (arg2.view.read (Elt F) f2) (arg3.view.read (Elt F) f3) (arg4.view.read (Elt F) f4) (arg5.view.read (Elt F) f5) (arg6.view.read (Elt F) f6) (arg7.view.read (Elt F) f7) k (arg8.view.read (Elt F) f)) [] rfl)
  rw [tripPieces, tripKeep]
  erw [e]
  rfl

/-- The loop's invariant, as the run goes through it. -/
@[sl_loop, instance_reducible] noncomputable def loopInv_k1_t1 (c : Dev nD) (arg0 : Memref sig .tc .vmem S2048x1 .f32) (harg0 : arg0.IsWhole) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole)
    (f0 : Buf (Elt F) (arg0.view.loc (c : Thread nD τ))) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (g : Buf (Elt F) (arg8.view.loc (c : Thread nD τ))) :
    LoopInvTy_k1_t1 (F := F) Unit ℕ (UR sig nD τ) ℕ Variants.none c none Set.univ arg0 harg0 arg1 harg1 arg2 harg2 arg3 harg3 arg4 harg4 arg5 harg5 arg6 harg6 arg7 harg7 arg8 harg8 (View.readAt (Elt F) arg4.view (Rect.unit (s := S1x2048) ![0, 0] S1x2048.size inb_S1x2048_S1x2048_0_0).toLoadRect f4) (View.readAt (Elt F) arg5.view (Rect.unit (s := S1x2048) ![0, 0] S1x2048.size inb_S1x2048_S1x2048_0_0).toLoadRect f5) (View.readAt (Elt F) arg6.view (Rect.unit (s := S1x2048) ![0, 0] S1x2048.size inb_S1x2048_S1x2048_0_0).toLoadRect f6) (View.readAt (Elt F) arg7.view (Rect.unit (s := S1x2048) ![0, 0] S1x2048.size inb_S1x2048_S1x2048_0_0).toLoadRect f7) lanes where
  inv := fun k _ => nmsInv c arg0 arg1 arg2 arg3 arg4 arg5 arg6 arg7 arg8 f0 f1 f2 f3 f4 f5 f6 f7 g k
  step := fun k acc => by
    have h := nms_step c arg0 harg0 arg1 harg1 arg2 harg2 arg3 harg3 arg4 harg4 arg5 harg5 arg6 harg6 arg7 harg7 arg8 harg8 f0 f1 f2 f3 f4 f5 f6 f7 g k acc
    rw [View.readAt_full arg4.view f4 inb_S1x2048_S1x2048_0_0]
    rw [View.readAt_full arg5.view f5 inb_S1x2048_S1x2048_0_0]
    rw [View.readAt_full arg6.view f6 inb_S1x2048_S1x2048_0_0]
    rw [View.readAt_full arg7.view f7 inb_S1x2048_S1x2048_0_0]
    exact h

set_option maxHeartbeats 4000000 in
/-- The suppression kernel on whole staging memrefs: the inputs stay as they were and the keep row ends as the loop leaves it
    after its last trip. -/
theorem sound_kernel1 (c : Dev nD) (arg0 : Memref sig .tc .vmem S2048x1 .f32) (harg0 : arg0.IsWhole) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole)
    (x0 x1 x2 x3 : Vec F S2048x1 .f32) (x4 x5 x6 x7 : Vec F S1x2048 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (keepAt x0 x1 x2 x3 x4 x5 x6 x7 k1_t1_loop.trips)) -∗ K ⟨⟩))
      ⊢ wp frame (wpE (defs₀ (F := F)) Variants.none c none) Set.univ (cc1__nms_kernel arg0 harg0 arg1 harg1 arg2 harg2 arg3 harg3 arg4 harg4 arg5 harg5 arg6 harg6 arg7 harg7 arg8 harg8) K := by
  simp only [cc1__nms_kernel_eq_skeleton]; unfold cc1__nms_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.writes_append]
  exact read_piecesBefore arg8.view _ _ _ _ _ _ _ _ _ (View.read_writes_full _ _ _ _ _) _

end Cert.Proof.KernelIdeal

end
-- ==== Proof.BodiesKernelIdeal.lean ====
/- The two kernel calls of `KernelIdeal`: what each body leaves in its output windows, and the pipelines' proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.NmsLoopKernelIdeal

@[expose] public section

-- membership in a rectangle of production extents (`View.cover_of_tiled`): the elaborator's structural look
-- recurses once per coordinate of the long axes
set_option maxRecDepth 16384

noncomputable section
namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__decode_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S160x128 := Rect.unit (s := S160x128) ![0, 0] S160x128.size inb_S160x128_S160x128_0_0

/-! ## What the body leaves in each output window's buffer -/

/-! ### Values of the body that the stores' payloads, spelt out, would write more than once

    Each is a vector the body binds (often a part call's result), stated over the input windows' blocks and
    numbered on from the skeleton's payload functions (`k0_pay14` …, after `k0_pay13`), so that
    `out0_W` and the values after it name it instead of spelling it out (`unfold_out out0_W` opens a canon
    with them, `unfold_payloads` opens them with the payloads); the comment after each is the printed function's
    name for the value (a count appended where that name is bound again). -/

def k0_pay14 (x0 : Vec F S160x128 .f32) (x1 : Vec F S160x128 .f32) (x2 : Vec F S160x128 .f32) (x3 : Vec F S160x128 .f32) (x4 : Vec F S160x128 .f32) (x5 : Vec F S160x128 .f32) (x6 : Vec F S160x128 .f32) (x7 : Vec F S160x128 .f32) (x8 : Vec F S160x128 .f32) : FVec F S160x128 .f32 :=
  k0_pay2 (View.ld x2 r0_0) (View.ld x0 r0_0) -- `v4`
def k0_pay15 (x0 : Vec F S160x128 .f32) (x1 : Vec F S160x128 .f32) (x2 : Vec F S160x128 .f32) (x3 : Vec F S160x128 .f32) (x4 : Vec F S160x128 .f32) (x5 : Vec F S160x128 .f32) (x6 : Vec F S160x128 .f32) (x7 : Vec F S160x128 .f32) (x8 : Vec F S160x128 .f32) : FVec F S160x128 .f32 :=
  k0_pay3 (View.ld x3 r0_0) (View.ld x1 r0_0) -- `v9`
def k0_pay16 (x0 : Vec F S160x128 .f32) (x1 : Vec F S160x128 .f32) (x2 : Vec F S160x128 .f32) (x3 : Vec F S160x128 .f32) (x4 : Vec F S160x128 .f32) (x5 : Vec F S160x128 .f32) (x6 : Vec F S160x128 .f32) (x7 : Vec F S160x128 .f32) (x8 : Vec F S160x128 .f32) : FVec F S160x128 .f32 :=
  k0_pay4 (View.ld x6 r0_0) -- `v23`
def k0_pay17 (x0 : Vec F S160x128 .f32) (x1 : Vec F S160x128 .f32) (x2 : Vec F S160x128 .f32) (x3 : Vec F S160x128 .f32) (x4 : Vec F S160x128 .f32) (x5 : Vec F S160x128 .f32) (x6 : Vec F S160x128 .f32) (x7 : Vec F S160x128 .f32) (x8 : Vec F S160x128 .f32) : FVec F S160x128 .f32 :=
  k0_pay5 (View.ld x7 r0_0) -- `v27`
def k0_pay18 (x0 : Vec F S160x128 .f32) (x1 : Vec F S160x128 .f32) (x2 : Vec F S160x128 .f32) (x3 : Vec F S160x128 .f32) (x4 : Vec F S160x128 .f32) (x5 : Vec F S160x128 .f32) (x6 : Vec F S160x128 .f32) (x7 : Vec F S160x128 .f32) (x8 : Vec F S160x128 .f32) : FVec F S160x128 .f32 :=
  k0_pay6 (View.ld x2 r0_0) (View.ld x0 r0_0) (View.ld x0 r0_0) (View.ld x4 r0_0) -- `v31`
def k0_pay19 (x0 : Vec F S160x128 .f32) (x1 : Vec F S160x128 .f32) (x2 : Vec F S160x128 .f32) (x3 : Vec F S160x128 .f32) (x4 : Vec F S160x128 .f32) (x5 : Vec F S160x128 .f32) (x6 : Vec F S160x128 .f32) (x7 : Vec F S160x128 .f32) (x8 : Vec F S160x128 .f32) : FVec F S160x128 .f32 :=
  k0_pay7 (View.ld x3 r0_0) (View.ld x1 r0_0) (View.ld x1 r0_0) (View.ld x5 r0_0) -- `v35`

/-- Window 9's staging buffer after the body, from the input windows' blocks: its 1 store as pieces, LAST
    FIRST (Lib/Pipeline/FrameBody.lean `View.canon`; the payloads are the skeleton's and the values stated above). -/
def out0_9 (x0 : Vec F S160x128 .f32) (x1 : Vec F S160x128 .f32) (x2 : Vec F S160x128 .f32) (x3 : Vec F S160x128 .f32) (x4 : Vec F S160x128 .f32) (x5 : Vec F S160x128 .f32) (x6 : Vec F S160x128 .f32) (x7 : Vec F S160x128 .f32) (x8 : Vec F S160x128 .f32) : Vec F S160x128 .f32 :=
  View.canon [⟨r0_0, k0_pay10 (k0_pay14 x0 x1 x2 x3 x4 x5 x6 x7 x8) (k0_pay16 x0 x1 x2 x3 x4 x5 x6 x7 x8) (k0_pay18 x0 x1 x2 x3 x4 x5 x6 x7 x8)⟩]

/-- Its stores tile the buffer (checked by evaluation), so they cover it. -/
theorem cover0_9 (p0 : Vec F S160x128 .f32) (y : S160x128.Idx) :
    ∃ pc ∈ ([⟨r0_0, p0⟩] : List (View.Piece (Elt F) S160x128 .f32)), y ∈ pc.1.set :=
  View.cover_of_tiled [⟨r0_0, p0⟩] S160x128.size (by rfl) y

/-- Window 10's staging buffer after the body, from the input windows' blocks: its 1 store as pieces, LAST
    FIRST (Lib/Pipeline/FrameBody.lean `View.canon`; the payloads are the skeleton's and the values stated above). -/
def out0_10 (x0 : Vec F S160x128 .f32) (x1 : Vec F S160x128 .f32) (x2 : Vec F S160x128 .f32) (x3 : Vec F S160x128 .f32) (x4 : Vec F S160x128 .f32) (x5 : Vec F S160x128 .f32) (x6 : Vec F S160x128 .f32) (x7 : Vec F S160x128 .f32) (x8 : Vec F S160x128 .f32) : Vec F S160x128 .f32 :=
  View.canon [⟨r0_0, k0_pay11 (k0_pay15 x0 x1 x2 x3 x4 x5 x6 x7 x8) (k0_pay17 x0 x1 x2 x3 x4 x5 x6 x7 x8) (k0_pay19 x0 x1 x2 x3 x4 x5 x6 x7 x8)⟩]

/-- Its stores tile the buffer (checked by evaluation), so they cover it. -/
theorem cover0_10 (p0 : Vec F S160x128 .f32) (y : S160x128.Idx) :
    ∃ pc ∈ ([⟨r0_0, p0⟩] : List (View.Piece (Elt F) S160x128 .f32)), y ∈ pc.1.set :=
  View.cover_of_tiled [⟨r0_0, p0⟩] S160x128.size (by rfl) y

/-- Window 11's staging buffer after the body, from the input windows' blocks: its 1 store as pieces, LAST
    FIRST (Lib/Pipeline/FrameBody.lean `View.canon`; the payloads are the skeleton's and the values stated above). -/
def out0_11 (x0 : Vec F S160x128 .f32) (x1 : Vec F S160x128 .f32) (x2 : Vec F S160x128 .f32) (x3 : Vec F S160x128 .f32) (x4 : Vec F S160x128 .f32) (x5 : Vec F S160x128 .f32) (x6 : Vec F S160x128 .f32) (x7 : Vec F S160x128 .f32) (x8 : Vec F S160x128 .f32) : Vec F S160x128 .f32 :=
  View.canon [⟨r0_0, k0_pay12 (k0_pay14 x0 x1 x2 x3 x4 x5 x6 x7 x8) (k0_pay16 x0 x1 x2 x3 x4 x5 x6 x7 x8) (k0_pay18 x0 x1 x2 x3 x4 x5 x6 x7 x8)⟩]

/-- Its stores tile the buffer (checked by evaluation), so they cover it. -/
theorem cover0_11 (p0 : Vec F S160x128 .f32) (y : S160x128.Idx) :
    ∃ pc ∈ ([⟨r0_0, p0⟩] : List (View.Piece (Elt F) S160x128 .f32)), y ∈ pc.1.set :=
  View.cover_of_tiled [⟨r0_0, p0⟩] S160x128.size (by rfl) y

/-- Window 12's staging buffer after the body, from the input windows' blocks: its 1 store as pieces, LAST
    FIRST (Lib/Pipeline/FrameBody.lean `View.canon`; the payloads are the skeleton's and the values stated above). -/
def out0_12 (x0 : Vec F S160x128 .f32) (x1 : Vec F S160x128 .f32) (x2 : Vec F S160x128 .f32) (x3 : Vec F S160x128 .f32) (x4 : Vec F S160x128 .f32) (x5 : Vec F S160x128 .f32) (x6 : Vec F S160x128 .f32) (x7 : Vec F S160x128 .f32) (x8 : Vec F S160x128 .f32) : Vec F S160x128 .f32 :=
  View.canon [⟨r0_0, k0_pay13 (k0_pay15 x0 x1 x2 x3 x4 x5 x6 x7 x8) (k0_pay17 x0 x1 x2 x3 x4 x5 x6 x7 x8) (k0_pay19 x0 x1 x2 x3 x4 x5 x6 x7 x8)⟩]

/-- Its stores tile the buffer (checked by evaluation), so they cover it. -/
theorem cover0_12 (p0 : Vec F S160x128 .f32) (y : S160x128.Idx) :
    ∃ pc ∈ ([⟨r0_0, p0⟩] : List (View.Piece (Elt F) S160x128 .f32)), y ∈ pc.1.set :=
  View.cover_of_tiled [⟨r0_0, p0⟩] S160x128.size (by rfl) y

/-- Window 13's staging buffer after the body, from the input windows' blocks: its 1 store as pieces, LAST
    FIRST (Lib/Pipeline/FrameBody.lean `View.canon`; the payloads are the skeleton's and the values stated above). -/
def out0_13 (x0 : Vec F S160x128 .f32) (x1 : Vec F S160x128 .f32) (x2 : Vec F S160x128 .f32) (x3 : Vec F S160x128 .f32) (x4 : Vec F S160x128 .f32) (x5 : Vec F S160x128 .f32) (x6 : Vec F S160x128 .f32) (x7 : Vec F S160x128 .f32) (x8 : Vec F S160x128 .f32) : Vec F S160x128 .f32 :=
  View.canon [⟨r0_0, k0_pay1 (k0_pay10 (k0_pay14 x0 x1 x2 x3 x4 x5 x6 x7 x8) (k0_pay16 x0 x1 x2 x3 x4 x5 x6 x7 x8) (k0_pay18 x0 x1 x2 x3 x4 x5 x6 x7 x8)) (k0_pay11 (k0_pay15 x0 x1 x2 x3 x4 x5 x6 x7 x8) (k0_pay17 x0 x1 x2 x3 x4 x5 x6 x7 x8) (k0_pay19 x0 x1 x2 x3 x4 x5 x6 x7 x8)) (k0_pay12 (k0_pay14 x0 x1 x2 x3 x4 x5 x6 x7 x8) (k0_pay16 x0 x1 x2 x3 x4 x5 x6 x7 x8) (k0_pay18 x0 x1 x2 x3 x4 x5 x6 x7 x8)) (k0_pay13 (k0_pay15 x0 x1 x2 x3 x4 x5 x6 x7 x8) (k0_pay17 x0 x1 x2 x3 x4 x5 x6 x7 x8) (k0_pay19 x0 x1 x2 x3 x4 x5 x6 x7 x8)) (View.ld x8 r0_0)⟩]

/-- Its stores tile the buffer (checked by evaluation), so they cover it. -/
theorem cover0_13 (p0 : Vec F S160x128 .f32) (y : S160x128.Idx) :
    ∃ pc ∈ ([⟨r0_0, p0⟩] : List (View.Piece (Elt F) S160x128 .f32)), y ∈ pc.1.set :=
  View.cover_of_tiled [⟨r0_0, p0⟩] S160x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (arg0 : Memref sig .tc .vmem S160x128 .f32) (harg0 : arg0.IsWhole) (arg1 : Memref sig .tc .vmem S160x128 .f32) (harg1 : arg1.IsWhole) (arg2 : Memref sig .tc .vmem S160x128 .f32) (harg2 : arg2.IsWhole) (arg3 : Memref sig .tc .vmem S160x128 .f32) (harg3 : arg3.IsWhole) (arg4 : Memref sig .tc .vmem S160x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (arg11 : Memref sig .tc .vmem S160x128 .f32) (harg11 : arg11.IsWhole) (arg12 : Memref sig .tc .vmem S160x128 .f32) (harg12 : arg12.IsWhole) (arg13 : Memref sig .tc .vmem S160x128 .f32) (harg13 : arg13.IsWhole)
    (x0 : Vec F S160x128 .f32) (x1 : Vec F S160x128 .f32) (x2 : Vec F S160x128 .f32) (x3 : Vec F S160x128 .f32) (x4 : Vec F S160x128 .f32) (x5 : Vec F S160x128 .f32) (x6 : Vec F S160x128 .f32) (x7 : Vec F S160x128 .f32) (x8 : Vec F S160x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out0_9 x0 x1 x2 x3 x4 x5 x6 x7 x8) ∗ owns (c : Thread nD τ) arg10 fullShare (out0_10 x0 x1 x2 x3 x4 x5 x6 x7 x8) ∗ owns (c : Thread nD τ) arg11 fullShare (out0_11 x0 x1 x2 x3 x4 x5 x6 x7 x8) ∗ owns (c : Thread nD τ) arg12 fullShare (out0_12 x0 x1 x2 x3 x4 x5 x6 x7 x8) ∗ owns (c : Thread nD τ) arg13 fullShare (out0_13 x0 x1 x2 x3 x4 x5 x6 x7 x8)) -∗ K ⟨⟩))
      ⊢ wp frame (wpE (defs₀ (F := F)) Variants.none c none) E (cc0__decode_kernel arg0 harg0 arg1 harg1 arg2 harg2 arg3 harg3 arg4 harg4 arg5 harg5 arg6 harg6 arg7 harg7 arg8 harg8 arg9 harg9 arg10 harg10 arg11 harg11 arg12 harg12 arg13 harg13) K := by
  simp only [cc0__decode_kernel_eq_skeleton]; unfold cc0__decode_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _)).trans ?_
    rfl
  iexists _; isplitr
  swap; · iexact H13
  ipureintro
  refine (View.read_writes_eq_canon _ _ _ (cover0_13 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel0 c Set.univ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__nms_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => keepAt (iblk1 V c 0 t) (iblk1 V c 1 t) (iblk1 V c 2 t) (iblk1 V c 3 t) (iblk1 V c 4 t) (iblk1 V c 5 t) (iblk1 V c 6 t) (iblk1 V c 7 t) k1_t1_loop.trips
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = keepAt (iblk1 V c 0 t) (iblk1 V c 1 t) (iblk1 V c 2 t) (iblk1 V c 3 t) (iblk1 V c 4 t) (iblk1 V c 5 t) (iblk1 V c 6 t) (iblk1 V c 7 t) k1_t1_loop.trips:= by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Proof.KernelIdeal

end
-- ==== Proof.RunKernelIdeal.lean ====
/- The run of `KernelIdeal` from the launch to the return: the buffers' contents at each segment boundary, and the frame. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Gen.KernelIdeal.Regions
public import proofs.«01_k».proof.Proof.BodiesKernelIdeal

@[expose] public section

-- membership in a rectangle of production extents (`View.cover_of_tiled`): the elaborator's structural look
-- recurses once per coordinate of the long axes
set_option maxRecDepth 16384

noncomputable section
namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- `hostOps0` writes none of the argument arrays (checked: each argument against each reference it writes). -/
theorem hostOps0_args : ∀ a ∈ argRefs, a ∉ hostOps0_W := ListAll.forall_mem_of_all_decide (by decide +kernel)

/-- `hostOps0_1` writes none of the argument arrays (checked: each argument against each reference it writes). -/
theorem hostOps0_1_args : ∀ a ∈ argRefs, a ∉ hostOps0_1_W := ListAll.forall_mem_of_all_decide (by decide +kernel)

/-- `hostOps0_2` writes none of the argument arrays (checked: each argument against each reference it writes). -/
theorem hostOps0_2_args : ∀ a ∈ argRefs, a ∉ hostOps0_2_W := ListAll.forall_mem_of_all_decide (by decide +kernel)

/-- `hostOps0_3` writes none of the argument arrays (checked: each argument against each reference it writes). -/
theorem hostOps0_3_args : ∀ a ∈ argRefs, a ∉ hostOps0_3_W := ListAll.forall_mem_of_all_decide (by decide +kernel)

/-- `hostOps0_4` writes none of the argument arrays (checked: each argument against each reference it writes). -/
theorem hostOps0_4_args : ∀ a ∈ argRefs, a ∉ hostOps0_4_W := ListAll.forall_mem_of_all_decide (by decide +kernel)

/-- `hostOps0_5` writes none of the argument arrays (checked: each argument against each reference it writes). -/
theorem hostOps0_5_args : ∀ a ∈ argRefs, a ∉ hostOps0_5_W := ListAll.forall_mem_of_all_decide (by decide +kernel)

/-- `hostOps0_6` writes none of the argument arrays (checked: each argument against each reference it writes). -/
theorem hostOps0_6_args : ∀ a ∈ argRefs, a ∉ hostOps0_6_W := ListAll.forall_mem_of_all_decide (by decide +kernel)

/-- `hostOps0_7` writes none of the argument arrays (checked: each argument against each reference it writes). -/
theorem hostOps0_7_args : ∀ a ∈ argRefs, a ∉ hostOps0_7_W := ListAll.forall_mem_of_all_decide (by decide +kernel)

/-- `hostOps0_8` writes none of the argument arrays (checked: each argument against each reference it writes). -/
theorem hostOps0_8_args : ∀ a ∈ argRefs, a ∉ hostOps0_8_W := ListAll.forall_mem_of_all_decide (by decide +kernel)

/-- `hostOps0_9` writes none of the argument arrays (checked: each argument against each reference it writes). -/
theorem hostOps0_9_args : ∀ a ∈ argRefs, a ∉ hostOps0_9_W := ListAll.forall_mem_of_all_decide (by decide +kernel)

/-- `hostOps0_10` writes none of the argument arrays (checked: each argument against each reference it writes). -/
theorem hostOps0_10_args : ∀ a ∈ argRefs, a ∉ hostOps0_10_W := ListAll.forall_mem_of_all_decide (by decide +kernel)

/-- `hostOps0_11` writes none of the argument arrays (checked: each argument against each reference it writes). -/
theorem hostOps0_11_args : ∀ a ∈ argRefs, a ∉ hostOps0_11_W := ListAll.forall_mem_of_all_decide (by decide +kernel)

/-- `hostOps0_12` writes none of the argument arrays (checked: each argument against each reference it writes). -/
theorem hostOps0_12_args : ∀ a ∈ argRefs, a ∉ hostOps0_12_W := ListAll.forall_mem_of_all_decide (by decide +kernel)

/-- `hostOps0_13` writes none of the argument arrays (checked: each argument against each reference it writes). -/
theorem hostOps0_13_args : ∀ a ∈ argRefs, a ∉ hostOps0_13_W := ListAll.forall_mem_of_all_decide (by decide +kernel)

/-- `hostOps0_14` writes none of the argument arrays (checked: each argument against each reference it writes). -/
theorem hostOps0_14_args : ∀ a ∈ argRefs, a ∉ hostOps0_14_W := ListAll.forall_mem_of_all_decide (by decide +kernel)

/-- `hostOps0_15` writes none of the argument arrays (checked: each argument against each reference it writes). -/
theorem hostOps0_15_args : ∀ a ∈ argRefs, a ∉ hostOps0_15_W := ListAll.forall_mem_of_all_decide (by decide +kernel)

/-- `hostOps0_16` writes none of the argument arrays (checked: each argument against each reference it writes). -/
theorem hostOps0_16_args : ∀ a ∈ argRefs, a ∉ hostOps0_16_W := ListAll.forall_mem_of_all_decide (by decide +kernel)

/-- `hostOps0_17` writes none of the argument arrays (checked: each argument against each reference it writes). -/
theorem hostOps0_17_args : ∀ a ∈ argRefs, a ∉ hostOps0_17_W := ListAll.forall_mem_of_all_decide (by decide +kernel)

/-- `hostOps0_18` writes none of the argument arrays (checked: each argument against each reference it writes). -/
theorem hostOps0_18_args : ∀ a ∈ argRefs, a ∉ hostOps0_18_W := ListAll.forall_mem_of_all_decide (by decide +kernel)

/-- `hostOps1` writes none of the argument arrays (checked: each argument against each reference it writes). -/
theorem hostOps1_args : ∀ a ∈ argRefs, a ∉ hostOps1_W := ListAll.forall_mem_of_all_decide (by decide +kernel)

/-- `hostOps1_1` writes none of the argument arrays (checked: each argument against each reference it writes). -/
theorem hostOps1_1_args : ∀ a ∈ argRefs, a ∉ hostOps1_1_W := ListAll.forall_mem_of_all_decide (by decide +kernel)

/-- `hostOps1_2` writes none of the argument arrays (checked: each argument against each reference it writes). -/
theorem hostOps1_2_args : ∀ a ∈ argRefs, a ∉ hostOps1_2_W := ListAll.forall_mem_of_all_decide (by decide +kernel)

/-- `hostOps2` writes none of the argument arrays (checked: each argument against each reference it writes). -/
theorem hostOps2_args : ∀ a ∈ argRefs, a ∉ hostOps2_W := ListAll.forall_mem_of_all_decide (by decide +kernel)

/-- `hostOps2_1` writes none of the argument arrays (checked: each argument against each reference it writes). -/
theorem hostOps2_1_args : ∀ a ∈ argRefs, a ∉ hostOps2_1_W := ListAll.forall_mem_of_all_decide (by decide +kernel)

/-- `hostOps2_2` writes none of the argument arrays (checked: each argument against each reference it writes). -/
theorem hostOps2_2_args : ∀ a ∈ argRefs, a ∉ hostOps2_2_W := ListAll.forall_mem_of_all_decide (by decide +kernel)

/-- `hostOps2_3` writes none of the argument arrays (checked: each argument against each reference it writes). -/
theorem hostOps2_3_args : ∀ a ∈ argRefs, a ∉ hostOps2_3_W := ListAll.forall_mem_of_all_decide (by decide +kernel)

/-- `hostOps2_4` writes none of the argument arrays (checked: each argument against each reference it writes). -/
theorem hostOps2_4_args : ∀ a ∈ argRefs, a ∉ hostOps2_4_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3`. -/
abbrev W4 : Dev nD → Valuation τ sig (Elt F) := fun c => StableHlo.after hostOps0_3 (W3 m ρ c)
/-- A reference `hostOps0_3` does not write keeps its contents across it. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- After `hostOps0_4`. -/
abbrev W5 : Dev nD → Valuation τ sig (Elt F) := fun c => StableHlo.after hostOps0_4 (W4 m ρ c)
/-- A reference `hostOps0_4` does not write keeps its contents across it. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- After `hostOps0_5`. -/
abbrev W6 : Dev nD → Valuation τ sig (Elt F) := fun c => StableHlo.after hostOps0_5 (W5 m ρ c)
/-- A reference `hostOps0_5` does not write keeps its contents across it. -/
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W6_args (c : Dev nD) : ∀ a ∈ argRefs, W6 m ρ c (Proc.devRef .tc a) = m ((c : Thread nD τ).loc a) :=
  fun a ha => (W6_of m ρ c a (hostOps0_5_args a ha)).trans (W5_args m ρ c a ha)
/-- After `hostOps0_6`. -/
abbrev W7 : Dev nD → Valuation τ sig (Elt F) := fun c => StableHlo.after hostOps0_6 (W6 m ρ c)
/-- A reference `hostOps0_6` does not write keeps its contents across it. -/
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W7_args (c : Dev nD) : ∀ a ∈ argRefs, W7 m ρ c (Proc.devRef .tc a) = m ((c : Thread nD τ).loc a) :=
  fun a ha => (W7_of m ρ c a (hostOps0_6_args a ha)).trans (W6_args m ρ c a ha)
/-- After `hostOps0_7`. -/
abbrev W8 : Dev nD → Valuation τ sig (Elt F) := fun c => StableHlo.after hostOps0_7 (W7 m ρ c)
/-- A reference `hostOps0_7` does not write keeps its contents across it. -/
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W8_args (c : Dev nD) : ∀ a ∈ argRefs, W8 m ρ c (Proc.devRef .tc a) = m ((c : Thread nD τ).loc a) :=
  fun a ha => (W8_of m ρ c a (hostOps0_7_args a ha)).trans (W7_args m ρ c a ha)
/-- After `hostOps0_8`. -/
abbrev W9 : Dev nD → Valuation τ sig (Elt F) := fun c => StableHlo.after hostOps0_8 (W8 m ρ c)
/-- A reference `hostOps0_8` does not write keeps its contents across it. -/
theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h
theorem W9_args (c : Dev nD) : ∀ a ∈ argRefs, W9 m ρ c (Proc.devRef .tc a) = m ((c : Thread nD τ).loc a) :=
  fun a ha => (W9_of m ρ c a (hostOps0_8_args a ha)).trans (W8_args m ρ c a ha)
/-- After `hostOps0_9`. -/
abbrev W10 : Dev nD → Valuation τ sig (Elt F) := fun c => StableHlo.after hostOps0_9 (W9 m ρ c)
/-- A reference `hostOps0_9` does not write keeps its contents across it. -/
theorem W10_of (c : Dev nD) (r : Ref sig .tc) (h : r ∉ hostOps0_9_W) : W10 m ρ c (Proc.devRef .tc r) = W9 m ρ c (Proc.devRef .tc r) :=
  StableHlo.after_of_writes_sub hostOps0_9 _ hostOps0_9_writes h
theorem W10_args (c : Dev nD) : ∀ a ∈ argRefs, W10 m ρ c (Proc.devRef .tc a) = m ((c : Thread nD τ).loc a) :=
  fun a ha => (W10_of m ρ c a (hostOps0_9_args a ha)).trans (W9_args m ρ c a ha)
/-- After `hostOps0_10`. -/
abbrev W11 : Dev nD → Valuation τ sig (Elt F) := fun c => StableHlo.after hostOps0_10 (W10 m ρ c)
/-- A reference `hostOps0_10` does not write keeps its contents across it. -/
theorem W11_of (c : Dev nD) (r : Ref sig .tc) (h : r ∉ hostOps0_10_W) : W11 m ρ c (Proc.devRef .tc r) = W10 m ρ c (Proc.devRef .tc r) :=
  StableHlo.after_of_writes_sub hostOps0_10 _ hostOps0_10_writes h
theorem W11_args (c : Dev nD) : ∀ a ∈ argRefs, W11 m ρ c (Proc.devRef .tc a) = m ((c : Thread nD τ).loc a) :=
  fun a ha => (W11_of m ρ c a (hostOps0_10_args a ha)).trans (W10_args m ρ c a ha)
/-- After `hostOps0_11`. -/
abbrev W12 : Dev nD → Valuation τ sig (Elt F) := fun c => StableHlo.after hostOps0_11 (W11 m ρ c)
/-- A reference `hostOps0_11` does not write keeps its contents across it. -/
theorem W12_of (c : Dev nD) (r : Ref sig .tc) (h : r ∉ hostOps0_11_W) : W12 m ρ c (Proc.devRef .tc r) = W11 m ρ c (Proc.devRef .tc r) :=
  StableHlo.after_of_writes_sub hostOps0_11 _ hostOps0_11_writes h
theorem W12_args (c : Dev nD) : ∀ a ∈ argRefs, W12 m ρ c (Proc.devRef .tc a) = m ((c : Thread nD τ).loc a) :=
  fun a ha => (W12_of m ρ c a (hostOps0_11_args a ha)).trans (W11_args m ρ c a ha)
/-- After `hostOps0_12`. -/
abbrev W13 : Dev nD → Valuation τ sig (Elt F) := fun c => StableHlo.after hostOps0_12 (W12 m ρ c)
/-- A reference `hostOps0_12` does not write keeps its contents across it. -/
theorem W13_of (c : Dev nD) (r : Ref sig .tc) (h : r ∉ hostOps0_12_W) : W13 m ρ c (Proc.devRef .tc r) = W12 m ρ c (Proc.devRef .tc r) :=
  StableHlo.after_of_writes_sub hostOps0_12 _ hostOps0_12_writes h
theorem W13_args (c : Dev nD) : ∀ a ∈ argRefs, W13 m ρ c (Proc.devRef .tc a) = m ((c : Thread nD τ).loc a) :=
  fun a ha => (W13_of m ρ c a (hostOps0_12_args a ha)).trans (W12_args m ρ c a ha)
/-- After `hostOps0_13`. -/
abbrev W14 : Dev nD → Valuation τ sig (Elt F) := fun c => StableHlo.after hostOps0_13 (W13 m ρ c)
/-- A reference `hostOps0_13` does not write keeps its contents across it. -/
theorem W14_of (c : Dev nD) (r : Ref sig .tc) (h : r ∉ hostOps0_13_W) : W14 m ρ c (Proc.devRef .tc r) = W13 m ρ c (Proc.devRef .tc r) :=
  StableHlo.after_of_writes_sub hostOps0_13 _ hostOps0_13_writes h
theorem W14_args (c : Dev nD) : ∀ a ∈ argRefs, W14 m ρ c (Proc.devRef .tc a) = m ((c : Thread nD τ).loc a) :=
  fun a ha => (W14_of m ρ c a (hostOps0_13_args a ha)).trans (W13_args m ρ c a ha)
/-- After `hostOps0_14`. -/
abbrev W15 : Dev nD → Valuation τ sig (Elt F) := fun c => StableHlo.after hostOps0_14 (W14 m ρ c)
/-- A reference `hostOps0_14` does not write keeps its contents across it. -/
theorem W15_of (c : Dev nD) (r : Ref sig .tc) (h : r ∉ hostOps0_14_W) : W15 m ρ c (Proc.devRef .tc r) = W14 m ρ c (Proc.devRef .tc r) :=
  StableHlo.after_of_writes_sub hostOps0_14 _ hostOps0_14_writes h
theorem W15_args (c : Dev nD) : ∀ a ∈ argRefs, W15 m ρ c (Proc.devRef .tc a) = m ((c : Thread nD τ).loc a) :=
  fun a ha => (W15_of m ρ c a (hostOps0_14_args a ha)).trans (W14_args m ρ c a ha)
/-- After `hostOps0_15`. -/
abbrev W16 : Dev nD → Valuation τ sig (Elt F) := fun c => StableHlo.after hostOps0_15 (W15 m ρ c)
/-- A reference `hostOps0_15` does not write keeps its contents across it. -/
theorem W16_of (c : Dev nD) (r : Ref sig .tc) (h : r ∉ hostOps0_15_W) : W16 m ρ c (Proc.devRef .tc r) = W15 m ρ c (Proc.devRef .tc r) :=
  StableHlo.after_of_writes_sub hostOps0_15 _ hostOps0_15_writes h
theorem W16_args (c : Dev nD) : ∀ a ∈ argRefs, W16 m ρ c (Proc.devRef .tc a) = m ((c : Thread nD τ).loc a) :=
  fun a ha => (W16_of m ρ c a (hostOps0_15_args a ha)).trans (W15_args m ρ c a ha)
/-- After `hostOps0_16`. -/
abbrev W17 : Dev nD → Valuation τ sig (Elt F) := fun c => StableHlo.after hostOps0_16 (W16 m ρ c)
/-- A reference `hostOps0_16` does not write keeps its contents across it. -/
theorem W17_of (c : Dev nD) (r : Ref sig .tc) (h : r ∉ hostOps0_16_W) : W17 m ρ c (Proc.devRef .tc r) = W16 m ρ c (Proc.devRef .tc r) :=
  StableHlo.after_of_writes_sub hostOps0_16 _ hostOps0_16_writes h
theorem W17_args (c : Dev nD) : ∀ a ∈ argRefs, W17 m ρ c (Proc.devRef .tc a) = m ((c : Thread nD τ).loc a) :=
  fun a ha => (W17_of m ρ c a (hostOps0_16_args a ha)).trans (W16_args m ρ c a ha)
/-- After `hostOps0_17`. -/
abbrev W18 : Dev nD → Valuation τ sig (Elt F) := fun c => StableHlo.after hostOps0_17 (W17 m ρ c)
/-- A reference `hostOps0_17` does not write keeps its contents across it. -/
theorem W18_of (c : Dev nD) (r : Ref sig .tc) (h : r ∉ hostOps0_17_W) : W18 m ρ c (Proc.devRef .tc r) = W17 m ρ c (Proc.devRef .tc r) :=
  StableHlo.after_of_writes_sub hostOps0_17 _ hostOps0_17_writes h
theorem W18_args (c : Dev nD) : ∀ a ∈ argRefs, W18 m ρ c (Proc.devRef .tc a) = m ((c : Thread nD τ).loc a) :=
  fun a ha => (W18_of m ρ c a (hostOps0_17_args a ha)).trans (W17_args m ρ c a ha)
/-- After `hostOps0_18` (region 0's entry). -/
abbrev W19 : Dev nD → Valuation τ sig (Elt F) := fun c => StableHlo.after hostOps0_18 (W18 m ρ c)
/-- A reference `hostOps0_18` does not write keeps its contents across it. -/
theorem W19_of (c : Dev nD) (r : Ref sig .tc) (h : r ∉ hostOps0_18_W) : W19 m ρ c (Proc.devRef .tc r) = W18 m ρ c (Proc.devRef .tc r) :=
  StableHlo.after_of_writes_sub hostOps0_18 _ hostOps0_18_writes h
theorem W19_args (c : Dev nD) : ∀ a ∈ argRefs, W19 m ρ c (Proc.devRef .tc a) = m ((c : Thread nD τ).loc a) :=
  fun a ha => (W19_of m ρ c a (hostOps0_18_args a ha)).trans (W18_args m ρ c a ha)
/-- The same read at the TensorCore's references (what region 0's proof data take). -/
abbrev V19 : (c : Dev nD) → (b : Ref sig .tc) → Buf (Elt F) ((c : Thread nD τ).loc b) := fun c b => W19 m ρ c b
/-- At region 0's exit: its arrays at what the pipeline leaves (the inputs as entered, each output's write-backs
    folded: `Dat.arrAt … N`), every other buffer as entered (Lib/Pipeline/FrameSuffix.lean `withArrays`). -/
def W20 (c : Dev nD) : Valuation τ sig (Elt F) :=
  Pipeline.withArrays spec0 c (W19 m ρ c) fun w => (dat0 (V19 m ρ) c).arrAt w cfg0.N
theorem W20_arr (c : Dev nD) (w : Fin cfg0.W) :
    W20 m ρ c (Proc.devRef .tc (Pipeline.arrRef spec0 w)) = (dat0 (V19 m ρ) c).arrAt w cfg0.N := by
  unfold W20; exact Pipeline.withArrays_arr spec0 launch0.win.arr_inj c _ _ w
theorem W20_of_ne (c : Dev nD) (b : Ref sig .tc) (hb : ∀ w, Pipeline.arrRef spec0 w ≠ b) :
    W20 m ρ c (Proc.devRef .tc b) = W19 m ρ c (Proc.devRef .tc b) := by
  unfold W20; exact Pipeline.withArrays_of_ne spec0 c _ _ b hb
/-- A reference that is none of region 0's OUTPUT arrays keeps its entry contents across it: an input window's
    array is never written back (`Dat.arrAt_in`, `A_eq0`); any other buffer is left as is. -/
theorem W20_of (c : Dev nD) (r : Ref sig .tc) (h : ∀ w : Fin cfg0.W, Pipeline.arrRef spec0 w = r → (cfg0.win w).isOut = false) :
    W20 m ρ c (Proc.devRef .tc r) = W19 m ρ c (Proc.devRef .tc r) := by
  by_cases hw : ∃ w : Fin cfg0.W, Pipeline.arrRef spec0 w = r
  · obtain ⟨w, rfl⟩ := hw
    exact (W20_arr m ρ c w).trans (((dat0 (V19 m ρ) c).arrAt_in w (h w rfl) _).trans (A_eq0 (V19 m ρ) c w))
  · exact W20_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W20_args (c : Dev nD) : ∀ a ∈ argRefs, W20 m ρ c (Proc.devRef .tc a) = m ((c : Thread nD τ).loc a) :=
  fun a ha => (W20_of m ρ c a (argsIn0 a ha)).trans (W19_args m ρ c a ha)
/-- The same read at the TensorCore's references (region 0's exit contents). -/
abbrev V20 : (c : Dev nD) → (b : Ref sig .tc) → Buf (Elt F) ((c : Thread nD τ).loc b) := fun c b => W20 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V19 m ρ) c).arrAt w cfg0.N = V20 m ρ c (Pipeline.arrRef spec0 w) :=
  (W20_arr m ρ c w).symm
theorem hrest0 (c : Dev nD) : ∀ b, b ∉ Finset.univ.image (Pipeline.arrRef spec0) → V20 m ρ c b = V19 m ρ c b :=
  fun b hb => W20_of_ne m ρ c b fun w e => hb (Finset.mem_image.mpr ⟨w, Finset.mem_univ _, e⟩)

/-- After `hostOps1`. -/
abbrev W21 : Dev nD → Valuation τ sig (Elt F) := fun c => StableHlo.after hostOps1 (W20 m ρ c)
/-- A reference `hostOps1` does not write keeps its contents across it. -/
theorem W21_of (c : Dev nD) (r : Ref sig .tc) (h : r ∉ hostOps1_W) : W21 m ρ c (Proc.devRef .tc r) = W20 m ρ c (Proc.devRef .tc r) :=
  StableHlo.after_of_writes_sub hostOps1 _ hostOps1_writes h
theorem W21_args (c : Dev nD) : ∀ a ∈ argRefs, W21 m ρ c (Proc.devRef .tc a) = m ((c : Thread nD τ).loc a) :=
  fun a ha => (W21_of m ρ c a (hostOps1_args a ha)).trans (W20_args m ρ c a ha)
/-- After `hostOps1_1`. -/
abbrev W22 : Dev nD → Valuation τ sig (Elt F) := fun c => StableHlo.after hostOps1_1 (W21 m ρ c)
/-- A reference `hostOps1_1` does not write keeps its contents across it. -/
theorem W22_of (c : Dev nD) (r : Ref sig .tc) (h : r ∉ hostOps1_1_W) : W22 m ρ c (Proc.devRef .tc r) = W21 m ρ c (Proc.devRef .tc r) :=
  StableHlo.after_of_writes_sub hostOps1_1 _ hostOps1_1_writes h
theorem W22_args (c : Dev nD) : ∀ a ∈ argRefs, W22 m ρ c (Proc.devRef .tc a) = m ((c : Thread nD τ).loc a) :=
  fun a ha => (W22_of m ρ c a (hostOps1_1_args a ha)).trans (W21_args m ρ c a ha)
/-- After `hostOps1_2` (region 1's entry). -/
abbrev W23 : Dev nD → Valuation τ sig (Elt F) := fun c => StableHlo.after hostOps1_2 (W22 m ρ c)
/-- A reference `hostOps1_2` does not write keeps its contents across it. -/
theorem W23_of (c : Dev nD) (r : Ref sig .tc) (h : r ∉ hostOps1_2_W) : W23 m ρ c (Proc.devRef .tc r) = W22 m ρ c (Proc.devRef .tc r) :=
  StableHlo.after_of_writes_sub hostOps1_2 _ hostOps1_2_writes h
theorem W23_args (c : Dev nD) : ∀ a ∈ argRefs, W23 m ρ c (Proc.devRef .tc a) = m ((c : Thread nD τ).loc a) :=
  fun a ha => (W23_of m ρ c a (hostOps1_2_args a ha)).trans (W22_args m ρ c a ha)
/-- The same read at the TensorCore's references (what region 1's proof data take). -/
abbrev V23 : (c : Dev nD) → (b : Ref sig .tc) → Buf (Elt F) ((c : Thread nD τ).loc b) := fun c b => W23 m ρ c b
/-- At region 1's exit: its arrays at what the pipeline leaves (the inputs as entered, each output's write-backs
    folded: `Dat.arrAt … N`), every other buffer as entered (Lib/Pipeline/FrameSuffix.lean `withArrays`). -/
def W24 (c : Dev nD) : Valuation τ sig (Elt F) :=
  Pipeline.withArrays spec1 c (W23 m ρ c) fun w => (dat1 (V23 m ρ) c).arrAt w cfg1.N
theorem W24_arr (c : Dev nD) (w : Fin cfg1.W) :
    W24 m ρ c (Proc.devRef .tc (Pipeline.arrRef spec1 w)) = (dat1 (V23 m ρ) c).arrAt w cfg1.N := by
  unfold W24; exact Pipeline.withArrays_arr spec1 launch1.win.arr_inj c _ _ w
theorem W24_of_ne (c : Dev nD) (b : Ref sig .tc) (hb : ∀ w, Pipeline.arrRef spec1 w ≠ b) :
    W24 m ρ c (Proc.devRef .tc b) = W23 m ρ c (Proc.devRef .tc b) := by
  unfold W24; exact Pipeline.withArrays_of_ne spec1 c _ _ b hb
/-- A reference that is none of region 1's OUTPUT arrays keeps its entry contents across it: an input window's
    array is never written back (`Dat.arrAt_in`, `A_eq1`); any other buffer is left as is. -/
theorem W24_of (c : Dev nD) (r : Ref sig .tc) (h : ∀ w : Fin cfg1.W, Pipeline.arrRef spec1 w = r → (cfg1.win w).isOut = false) :
    W24 m ρ c (Proc.devRef .tc r) = W23 m ρ c (Proc.devRef .tc r) := by
  by_cases hw : ∃ w : Fin cfg1.W, Pipeline.arrRef spec1 w = r
  · obtain ⟨w, rfl⟩ := hw
    exact (W24_arr m ρ c w).trans (((dat1 (V23 m ρ) c).arrAt_in w (h w rfl) _).trans (A_eq1 (V23 m ρ) c w))
  · exact W24_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W24_args (c : Dev nD) : ∀ a ∈ argRefs, W24 m ρ c (Proc.devRef .tc a) = m ((c : Thread nD τ).loc a) :=
  fun a ha => (W24_of m ρ c a (argsIn1 a ha)).trans (W23_args m ρ c a ha)
/-- The same read at the TensorCore's references (region 1's exit contents). -/
abbrev V24 : (c : Dev nD) → (b : Ref sig .tc) → Buf (Elt F) ((c : Thread nD τ).loc b) := fun c b => W24 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V23 m ρ) c).arrAt w cfg1.N = V24 m ρ c (Pipeline.arrRef spec1 w) :=
  (W24_arr m ρ c w).symm
theorem hrest1 (c : Dev nD) : ∀ b, b ∉ Finset.univ.image (Pipeline.arrRef spec1) → V24 m ρ c b = V23 m ρ c b :=
  fun b hb => W24_of_ne m ρ c b fun w e => hb (Finset.mem_image.mpr ⟨w, Finset.mem_univ _, e⟩)

/-- After `hostOps2`. -/
abbrev W25 : Dev nD → Valuation τ sig (Elt F) := fun c => StableHlo.after hostOps2 (W24 m ρ c)
/-- A reference `hostOps2` does not write keeps its contents across it. -/
theorem W25_of (c : Dev nD) (r : Ref sig .tc) (h : r ∉ hostOps2_W) : W25 m ρ c (Proc.devRef .tc r) = W24 m ρ c (Proc.devRef .tc r) :=
  StableHlo.after_of_writes_sub hostOps2 _ hostOps2_writes h
theorem W25_args (c : Dev nD) : ∀ a ∈ argRefs, W25 m ρ c (Proc.devRef .tc a) = m ((c : Thread nD τ).loc a) :=
  fun a ha => (W25_of m ρ c a (hostOps2_args a ha)).trans (W24_args m ρ c a ha)
/-- After `hostOps2_1`. -/
abbrev W26 : Dev nD → Valuation τ sig (Elt F) := fun c => StableHlo.after hostOps2_1 (W25 m ρ c)
/-- A reference `hostOps2_1` does not write keeps its contents across it. -/
theorem W26_of (c : Dev nD) (r : Ref sig .tc) (h : r ∉ hostOps2_1_W) : W26 m ρ c (Proc.devRef .tc r) = W25 m ρ c (Proc.devRef .tc r) :=
  StableHlo.after_of_writes_sub hostOps2_1 _ hostOps2_1_writes h
theorem W26_args (c : Dev nD) : ∀ a ∈ argRefs, W26 m ρ c (Proc.devRef .tc a) = m ((c : Thread nD τ).loc a) :=
  fun a ha => (W26_of m ρ c a (hostOps2_1_args a ha)).trans (W25_args m ρ c a ha)
/-- After `hostOps2_2`. -/
abbrev W27 : Dev nD → Valuation τ sig (Elt F) := fun c => StableHlo.after hostOps2_2 (W26 m ρ c)
/-- A reference `hostOps2_2` does not write keeps its contents across it. -/
theorem W27_of (c : Dev nD) (r : Ref sig .tc) (h : r ∉ hostOps2_2_W) : W27 m ρ c (Proc.devRef .tc r) = W26 m ρ c (Proc.devRef .tc r) :=
  StableHlo.after_of_writes_sub hostOps2_2 _ hostOps2_2_writes h
theorem W27_args (c : Dev nD) : ∀ a ∈ argRefs, W27 m ρ c (Proc.devRef .tc a) = m ((c : Thread nD τ).loc a) :=
  fun a ha => (W27_of m ρ c a (hostOps2_2_args a ha)).trans (W26_args m ρ c a ha)
/-- After `hostOps2_3`. -/
abbrev W28 : Dev nD → Valuation τ sig (Elt F) := fun c => StableHlo.after hostOps2_3 (W27 m ρ c)
/-- A reference `hostOps2_3` does not write keeps its contents across it. -/
theorem W28_of (c : Dev nD) (r : Ref sig .tc) (h : r ∉ hostOps2_3_W) : W28 m ρ c (Proc.devRef .tc r) = W27 m ρ c (Proc.devRef .tc r) :=
  StableHlo.after_of_writes_sub hostOps2_3 _ hostOps2_3_writes h
theorem W28_args (c : Dev nD) : ∀ a ∈ argRefs, W28 m ρ c (Proc.devRef .tc a) = m ((c : Thread nD τ).loc a) :=
  fun a ha => (W28_of m ρ c a (hostOps2_3_args a ha)).trans (W27_args m ρ c a ha)
/-- After `hostOps2_4`. -/
abbrev W29 : Dev nD → Valuation τ sig (Elt F) := fun c => StableHlo.after hostOps2_4 (W28 m ρ c)
/-- A reference `hostOps2_4` does not write keeps its contents across it. -/
theorem W29_of (c : Dev nD) (r : Ref sig .tc) (h : r ∉ hostOps2_4_W) : W29 m ρ c (Proc.devRef .tc r) = W28 m ρ c (Proc.devRef .tc r) :=
  StableHlo.after_of_writes_sub hostOps2_4 _ hostOps2_4_writes h
theorem W29_args (c : Dev nD) : ∀ a ∈ argRefs, W29 m ρ c (Proc.devRef .tc a) = m ((c : Thread nD τ).loc a) :=
  fun a ha => (W29_of m ρ c a (hostOps2_4_args a ha)).trans (W28_args m ρ c a ha)

/-! ### The arguments end as launched: no host stretch writes one and no region may change one (a region reads it
    through an input window or bypasses it) -/

theorem W29_main_arg0 (c : Dev nD) : W29 m ρ c (Proc.devRef .tc main_arg0) = m ((c : Thread nD τ).loc main_arg0) :=
  W29_args m ρ c main_arg0 (by decide)
theorem W29_main_arg1 (c : Dev nD) : W29 m ρ c (Proc.devRef .tc main_arg1) = m ((c : Thread nD τ).loc main_arg1) :=
  W29_args m ρ c main_arg1 (by decide)
theorem W29_main_arg2 (c : Dev nD) : W29 m ρ c (Proc.devRef .tc main_arg2) = m ((c : Thread nD τ).loc main_arg2) :=
  W29_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V19 m ρ) c
  | ⟨1, _⟩ => fun c => dat1 (V23 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W29`, the generator register at some state. -/
abbrev Tₙ (c : Dev nD) : sProp 𝕄 := iprop(StableHlo.held (c : Thread nD τ) (Pipeline.ucRefs τ sig) (W29 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W19`, left at `W20`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V19 m ρ) c).loose
  hwaits := Pipeline.hwaits_of_owed_zero _ _ _ _ L lv 0 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec0 c (V19 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V19 m ρ c) (A_eq0 (V19 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V19 m ρ c) (V20 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W23`, left at `W24`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V23 m ρ) c).loose
  hwaits := Pipeline.hwaits_of_owed_zero _ _ _ _ L lv 1 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec1 c (V23 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V23 m ρ c) (A_eq1 (V23 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V23 m ρ c) (V24 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 29 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .host (hseg hostOps0_13 hostOps0_13_sub hostOps0_13_fresh (W13 m ρ)),
    .host (hseg hostOps0_14 hostOps0_14_sub hostOps0_14_fresh (W14 m ρ)),
    .host (hseg hostOps0_15 hostOps0_15_sub hostOps0_15_fresh (W15 m ρ)),
    .host (hseg hostOps0_16 hostOps0_16_sub hostOps0_16_fresh (W16 m ρ)),
    .host (hseg hostOps0_17 hostOps0_17_sub hostOps0_17_fresh (W17 m ρ)),
    .host (hseg hostOps0_18 hostOps0_18_sub hostOps0_18_fresh (W18 m ρ)),
    .region (reg0 m ρ),
    .host (hseg hostOps1 hostOps1_sub hostOps1_fresh (W20 m ρ)),
    .host (hseg hostOps1_1 hostOps1_1_sub hostOps1_1_fresh (W21 m ρ)),
    .host (hseg hostOps1_2 hostOps1_2_sub hostOps1_2_fresh (W22 m ρ)),
    .region (reg1 m ρ),
    .host (hseg hostOps2 hostOps2_sub hostOps2_fresh (W24 m ρ)),
    .host (hseg hostOps2_1 hostOps2_1_sub hostOps2_1_fresh (W25 m ρ)),
    .host (hseg hostOps2_2 hostOps2_2_sub hostOps2_2_fresh (W26 m ρ)),
    .host (hseg hostOps2_3 hostOps2_3_sub hostOps2_3_fresh (W27 m ρ)),
    .host (hseg hostOps2_4 hostOps2_4_sub hostOps2_4_fresh (W28 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- From any memory with zero counters every weakly fair execution of @main terminates, every unscoped buffer ends at the last
    boundary's contents, and every semaphore counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W29 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m ρ c b)
    (hfin := fun c s' => by
      iintro ⟨⟨Hh, -⟩, HSI⟩
      unfold StableHlo.held
      imodintro
      iapply (pointsTo_read_all (Pipeline.ucRefs τ sig) (fun b => (((c : Thread nD τ)).1, b)) (W29 m ρ c) s')
      isplitl [Hh] <;> iassumption)
    (hQ := fun s h hz => ⟨h, funext fun g => hz g (.inr (no_unscoped g.2))⟩)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨(fun c =>
      ⟨(h.1 c _ (mem_uc main_arg0 (by decide))).trans (W29_main_arg0 m ρ c),
       (h.1 c _ (mem_uc main_arg1 (by decide))).trans (W29_main_arg1 m ρ c),
       (h.1 c _ (mem_uc main_arg2 (by decide))).trans (W29_main_arg2 m ρ c)⟩), h.2⟩) (run m ρ)

end Cert.Proof.KernelIdeal

end
-- ==== Proof.RunReference.lean ====
/- The run of the reference from the launch to the return: every buffer at the fold through its operations and its counted
   loop, every semaphore counter at zero, and the frame. -/
module

public import proofs.«01_k».proof.Proof.Gen.ReferenceIdeal.Run
public import Idealize.ShloMosaic.Lib.Pipeline.RegionsLoop
public import Idealize.ShloMosaic.Lib.StableHlo.RunLoop

@[expose] public section

set_option maxRecDepth 100000

noncomputable section

namespace Cert.Proof.ReferenceIdeal

open Cert.ReferenceIdeal Cert.ReferenceIdeal.Gen Cert.ReferenceIdeal.Value
open Idealize.ShloMosaic Idealize.ShloMosaic.TcCoe Idealize.ShloMosaic.StableHlo Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Option PUnit) ℕ

variable (m : (ℓ : Loc nD τ sig) → Buf (Elt F) ℓ) (ρ : Dev nD → PrngReg)

/-- No pipeline: nothing admitted, no ticket, no level. -/
abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0

theorem cell_inj : Function.Injective (Pipeline.cellOf (nD := nD) (τ := τ) (Pipeline.pin (pcfgs (F := F)) adm)) := fun k => k.1.elim0

/-- What rides beside the buffers: the core owes nothing. -/
abbrev Rw (c : Dev nD) : sProp 𝕄 := iprop(∃ W, owes (c : Thread nD τ) (0 : CellTallies nD τ sig Unit) W)

/-- The condition's specification with the core's `owes` carried beside it. -/
theorem cond_framed : LoopCond (pcfgs (F := F)) defs₀ Variants.none loops Rw (main_while0_cond (F := F)) condOps bodyI (entryContents preI m) 2000 := fun k hk c bd => by
  have hc := cond_spec m k hk c bd
  have hpost : ∀ v : Elt F .i1,
      iprop((⌜v = 1#1 ↔ k < 2000⌝ ∗ boundary (c : Thread nD τ) ∗ held (c : Thread nD τ) (ucRefs τ sig) (after condOps (atTrip condOps bodyI (entryContents preI m) k c))) ∗ Rw c)
        ⊢ iprop(⌜v = 1#1 ↔ k < 2000⌝ ∗ boundary (c : Thread nD τ) ∗ held (c : Thread nD τ) (ucRefs τ sig) (after condOps (atTrip condOps bodyI (entryContents preI m) k c)) ∗ (Rw c : sProp 𝕄)) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left hc).trans (wp_frame_r _ _ _)).trans (wp_mono _ _ _ hpost))
  iintro ⟨Hbd, Hh, HR⟩
  isplitl [Hbd Hh]; · isplitl [Hbd] <;> iassumption
  iexact HR

/-- The body region is its stretch. -/
theorem body_chain : (main_while0_body (F := F)) = Pipeline.chain (bodyI.map fun ops => (seq ops : Prog _ PUnit)) := by
  rw [while0_body_chain]; rfl

/-- @main's segments: the stretches before the loop, the loop, the stretches after it. -/
def segs : List (CSeg (pcfgs (F := F)) adm defs₀ Variants.none L lv loops tk) :=
  segsOf _ _ _ _ _ _ _ _ Rw preI hpre (launchContents m)
    ++ loopSeg _ _ _ _ _ _ _ _ 0 main_while0_cond main_while0_body rfl condOps bodyI hbodyI body_chain 2000 (entryContents preI m) Rw (cond_framed m)
      :: segsOf _ _ _ _ _ _ _ _ Rw postI hpost (fun c => after condOps (atTrip condOps bodyI (entryContents preI m) 2000 c))

theorem segs_prog : (segs m).map CSeg.prog
    = (preI.map fun ops => (seq ops : Prog _ PUnit)) ++ HostLoop.enter 0 :: (postI (F := F)).map fun ops => (seq ops : Prog _ PUnit) := by
  unfold segs
  rw [List.map_append, List.map_cons, segsOf_prog, segsOf_prog]
  rfl

theorem segs_chains : CSeg.Chains (fun c => iprop(held (c : Thread nD τ) (ucRefs τ sig) (launchContents m c) ∗ Rw c)) (segs m)
    (fun c => iprop(iprop(held (c : Thread nD τ) (ucRefs τ sig) (finalContents condOps preI bodyI postI 2000 m c))
      ∗ ∃ W, owes (c : Thread nD τ) (0 : CellTallies nD τ sig Unit) W)) := by
  unfold segs
  exact CSeg.Chains.append (segsOf_chains _ _ _ _ _ _ _ _ Rw preI hpre _) ⟨fun _ => .rfl, segsOf_chains _ _ _ _ _ _ _ _ Rw postI hpost _⟩

/-- The core has no unscoped semaphore. -/
theorem no_unscoped : ∀ sm : SemLoc sig, sm.isScoped .tc = true := by decide

/-- From any memory with zero counters every weakly fair execution terminates with every unscoped buffer at the fold and every
    semaphore counter at zero. -/
theorem run : θ_run (defs (F := F)) (onTc (τ := τ) (main (F := F))) ⟨m, fun _ => 0, ρ⟩ (fun r => (∀ c : Dev nD,
      ∀ b ∈ ucRefs τ sig, r.2.mem ((c : Dev nD), b) = finalContents condOps preI bodyI postI 2000 m c b)
      ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm cell_inj defs₀ Variants.none L lv loops tk m ρ main (segs m)
    (fun c Q => by
      rw [show main (F := F) c = Pipeline.chain ((preI.map fun ops => (seq ops : Prog _ PUnit)) ++ HostLoop.enter 0 :: postI.map fun ops => (seq ops : Prog _ PUnit))
        from by rw [main_chain]; rfl]
      show wp _ _ _ (Pipeline.chain ((segs m).map CSeg.prog)) Q ⊢ _
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (finalContents condOps preI bodyI postI 2000 m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = finalContents condOps preI bodyI postI 2000 m c b)
    (hfin := fun c s' => by
      unfold held
      iintro ⟨Hh, HSI⟩
      ihave Hr := (pointsTo_read_all (ucRefs τ sig) (fun b => ((c : Dev nD), b)) (fun b => finalContents condOps preI bodyI postI 2000 m c b) s') $$ [Hh HSI]
      · isplitl [Hh] <;> iassumption
      icases Hr with ⟨%h, HSI⟩
      imodintro
      isplitr; · ipureintro; exact h
      iexact HSI)
    (hQ := fun s h hz => ⟨h, funext fun g => hz g (.inr (no_unscoped g.2))⟩)

/-! What each stretch after the loop writes. -/

abbrev hostOps0_13_W : List (Ref sig .tc) := [main_cst_24]
theorem hostOps0_13_writes : (hostOps0_13 : List (HloOp τ sig (Elt F))).Forall fun op => op.writes ⊆ (hostOps0_13_W.map (Proc.devRef (τ := τ) .tc)).toFinset :=
  StableHlo.forall_writes_sub_of_map rfl
abbrev hostOps0_14_W : List (Ref sig .tc) := [main_call6_v0, main_call6_v1, main_v141]
theorem hostOps0_14_writes : (hostOps0_14 : List (HloOp τ sig (Elt F))).Forall fun op => op.writes ⊆ (hostOps0_14_W.map (Proc.devRef (τ := τ) .tc)).toFinset :=
  StableHlo.forall_writes_sub_of_map rfl
abbrev hostOps0_15_W : List (Ref sig .tc) := [main_values_25, main_indices_26, main_c_27, main_v142, main_v143, main_c_28, main_v144, main_v145, main_v146, main_v147, main_v148, main_c_29, main_v149, main_v150, main_c_30, main_v151, main_v152, main_v153, main_v154, main_v155, main_v156, main_v157]
theorem hostOps0_15_writes : (hostOps0_15 : List (HloOp τ sig (Elt F))).Forall fun op => op.writes ⊆ (hostOps0_15_W.map (Proc.devRef (τ := τ) .tc)).toFinset :=
  StableHlo.forall_writes_sub_of_map rfl

/-- An argument of the program is written by no operation: it ends as launched. -/
theorem arg_final (c : Dev nD) (r : Ref sig .tc)
    (h0 : r ∉ hostOps0_W) (h1 : r ∉ hostOps0_1_W) (h2 : r ∉ hostOps0_2_W) (h3 : r ∉ hostOps0_3_W) (h4 : r ∉ hostOps0_4_W)
    (h5 : r ∉ hostOps0_5_W) (h6 : r ∉ hostOps0_6_W) (h7 : r ∉ hostOps0_7_W) (h8 : r ∉ hostOps0_8_W) (h9 : r ∉ hostOps0_9_W)
    (h10 : r ∉ hostOps0_10_W) (h11 : r ∉ hostOps0_11_W) (h12 : r ∉ hostOps0_12_W) (hc : r ∉ condOps_W) (hb : r ∉ while0Ops0_W)
    (h13 : r ∉ hostOps0_13_W) (h14 : r ∉ hostOps0_14_W) (h15 : r ∉ hostOps0_15_W) :
    finalContents condOps preI bodyI postI 2000 m c (Proc.devRef .tc r) = m (c, Proc.devRef .tc r) := by
  have hk : ∀ k, atTrip condOps bodyI (entryContents preI m) k c (Proc.devRef .tc r) = m (c, Proc.devRef .tc r) := by
    intro k
    induction k with
    | zero =>
      simp only [atTrip_zero, entryContents, preI, afterL_cons, afterL_nil]
      rw [after_of_writes_sub _ _ hostOps0_12_writes h12, after_of_writes_sub _ _ hostOps0_11_writes h11,
        after_of_writes_sub _ _ hostOps0_10_writes h10, after_of_writes_sub _ _ hostOps0_9_writes h9,
        after_of_writes_sub _ _ hostOps0_8_writes h8, after_of_writes_sub _ _ hostOps0_7_writes h7,
        after_of_writes_sub _ _ hostOps0_6_writes h6, after_of_writes_sub _ _ hostOps0_5_writes h5,
        after_of_writes_sub _ _ hostOps0_4_writes h4, after_of_writes_sub _ _ hostOps0_3_writes h3,
        after_of_writes_sub _ _ hostOps0_2_writes h2, after_of_writes_sub _ _ hostOps0_1_writes h1,
        after_of_writes_sub _ _ hostOps0_writes h0]
    | succ k ih =>
      simp only [atTrip_succ, bodyI, afterL_cons, afterL_nil]
      rw [after_of_writes_sub _ _ while0Ops0_writes hb, after_of_writes_sub _ _ condOps_writes hc, ih]
  simp only [finalContents, postI, afterL_cons, afterL_nil]
  rw [after_of_writes_sub _ _ hostOps0_15_writes h15, after_of_writes_sub _ _ hostOps0_14_writes h14,
    after_of_writes_sub _ _ hostOps0_13_writes h13, after_of_writes_sub _ _ condOps_writes hc, hk]

/-- The first argument ends as launched. -/
theorem arg0_final (c : Dev nD) : finalContents condOps preI bodyI postI 2000 m c (Proc.devRef .tc main_arg0) = m (c, Proc.devRef .tc main_arg0) := by
  apply arg_final <;> decide +kernel

/-- So does the second. -/
theorem arg1_final (c : Dev nD) : finalContents condOps preI bodyI postI 2000 m c (Proc.devRef .tc main_arg1) = m (c, Proc.devRef .tc main_arg1) := by
  apply arg_final <;> decide +kernel

/-- So does the third. -/
theorem arg2_final (c : Dev nD) : finalContents condOps preI bodyI postI 2000 m c (Proc.devRef .tc main_arg2) = m (c, Proc.devRef .tc main_arg2) := by
  apply arg_final <;> decide +kernel

/-- The program terminates without a fault, its arguments unchanged and every semaphore counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c =>
    ⟨(h.1 c _ (devRef_mem_ucRefs main_arg0 rfl)).trans (arg0_final m c), (h.1 c _ (devRef_mem_ucRefs main_arg1 rfl)).trans (arg1_final m c),
      (h.1 c _ (devRef_mem_ucRefs main_arg2 rfl)).trans (arg2_final m c)⟩, h.2⟩) (run m ρ)

end Cert.Proof.ReferenceIdeal

end
-- ==== Proof.HostKernelIdeal.lean ====
/- The host operations before each of the two kernels: the padded columns they are given, and the boxes and scores taken from
   what the first leaves, as terms (`KernelIdeal`). -/
module

public import proofs.«01_k».proof.Proof.RunKernelIdeal
public import Idealize.ShloMosaic.Lib.StableHlo.ReadAt

@[expose] public section

set_option maxRecDepth 16384

noncomputable section

namespace Cert.Proof.KernelIdeal

open Cert.KernelIdeal Cert.KernelIdeal.Gen Idealize.ShloMosaic Idealize.ShloMosaic.TcCoe StableHlo

variable {F : FTy → Type} [FloatOps F]

/-- Column 0 of the table. -/
def column0 (x : FVec F S20000x4 .f32) : FVec F S20000 .f32 :=
  shapeCast S20000 (extractStridedSlice S20000x1 ![0, 0] x slices_S20000x4_S20000x1_0_0) shapeCasts_S20000x1_S20000

/-- Column 1 of the table. -/
def column1 (x : FVec F S20000x4 .f32) : FVec F S20000 .f32 :=
  shapeCast S20000 (extractStridedSlice S20000x1 ![0, 1] x slices_S20000x4_S20000x1_0_1) shapeCasts_S20000x1_S20000

/-- Column 2 of the table. -/
def column2 (x : FVec F S20000x4 .f32) : FVec F S20000 .f32 :=
  shapeCast S20000 (extractStridedSlice S20000x1 ![0, 2] x slices_S20000x4_S20000x1_0_2) shapeCasts_S20000x1_S20000

/-- Column 3 of the table. -/
def column3 (x : FVec F S20000x4 .f32) : FVec F S20000 .f32 :=
  shapeCast S20000 (extractStridedSlice S20000x1 ![0, 3] x slices_S20000x4_S20000x1_0_3) shapeCasts_S20000x1_S20000

/-- A column padded by zeros and laid out in rows of 128. -/
def padded (x : FVec F S20000 .f32) : FVec F S160x128 .f32 :=
  shapeCast S160x128 (pad S20480 ![0] ![480] ![0] x (sitofp .f32 (constantI S_ 32 0#32)) pads_S20000_S20480_04800 h_S_) shapeCasts_S20480_S160x128

/-- A layout in rows of 128 read back as a column. -/
def flat (x : FVec F S160x128 .f32) : FVec F S20000 .f32 :=
  extractStridedSlice S20000 ![0] (shapeCast S20480 x shapeCasts_S160x128_S20480) slices_S20480_S20000_0

/-- Four one-lane columns side by side. -/
def stack (a b c d : FVec F S20000x1 .f32) : FVec F S20000x4 .f32 :=
  concatenate S20000x4 1 [⟨S20000x1, a⟩, ⟨S20000x1, b⟩, ⟨S20000x1, c⟩, ⟨S20000x1, d⟩] concatenates_S20000x1_S20000x1_S20000x1_S20000x1_S20000x4_d1

/-- A column as a table of one lane. -/
def lane (x : FVec F S20000 .f32) : FVec F S20000x1 .f32 := broadcastInDim S20000x1 ![0] bcast_S20000_S20000x1_0 x

/-- The two thousand greatest scores. -/
def best (x : FVec F S20000 .f32) : FVec F S2000 .f32 := (Host.topK S2000 0 (FloatOps.cmpfTotal .gt) x sliceFits_S20000_S2000).1

/-- Where they stand. -/
def bestAt (x : FVec F S20000 .f32) : IVec S2000 32 := (Host.topK S2000 0 (FloatOps.cmpfTotal .gt) x sliceFits_S20000_S2000).2

/-- An index counted from the end where it is negative. -/
def wrap20000 (x : IVec S2000 32) : IVec S2000x1 32 :=
  broadcastInDim S2000x1 ![0] bcast_S2000_S2000x1_0
    (select (cmpi .slt x (broadcastInDim S2000 ![] bcast_S_S2000 (constantI S_ 32 0#32))) (addi x (broadcastInDim S2000 ![] bcast_S_S2000 (constantI S_ 32 20000#32))) x)

/-- The boxes at the given places. -/
def chosen (boxes : FVec F S20000x4 .f32) (at' : IVec S2000 32) : FVec F S2000x4 .f32 :=
  Host.gather gather_S20000x4_S2000x1_S2000x4_1_0_n_n_0_1_14 boxes (wrap20000 at')

/-- The chosen boxes padded by zero rows. -/
def long (x : FVec F S2000x4 .f32) : FVec F S2048x4 .f32 :=
  pad S2048x4 ![0, 0] ![48, 0] ![0, 0] x (sitofp .f32 (constantI S_ 32 0#32)) pads_S2000x4_S2048x4_0480_000 h_S_

set_option maxHeartbeats 400000

theorem col0 (V : Valuation τ sig (Elt F)) : after hostOps0 V (Proc.devRef .tc main_v1) = column0 (V (Proc.devRef .tc main_arg0)) := by
  after_reads_simp
  rfl
theorem zero0 (V : Valuation τ sig (Elt F)) : after hostOps0 V (Proc.devRef .tc main_c) = constantI S_ 32 0#32 := by
  after_reads_simp
theorem pad0 (V : Valuation τ sig (Elt F)) (h : (V (Proc.devRef .tc main_c)) = constantI S_ 32 0#32) : after hostOps0_1 V (Proc.devRef .tc main_v2) =
    pad S20480 ![0] ![480] ![0] (V (Proc.devRef .tc main_v1)) (sitofp .f32 (constantI S_ 32 0#32)) pads_S20000_S20480_04800 h_S_ := by
  after_reads_simp
  simp -implicitDefEqProofs only [StableHlo.TRef.toBuf, StableHlo.TRef.ofBuf, cast_cast, cast_eq]
  rw [h]
theorem fold0 (V : Valuation τ sig (Elt F)) : after hostOps0_2 V (Proc.devRef .tc main_v3) = shapeCast S160x128 (V (Proc.devRef .tc main_v2)) shapeCasts_S20480_S160x128 := by
  after_reads_simp
  rfl
theorem col1 (V : Valuation τ sig (Elt F)) : after hostOps0_2 V (Proc.devRef .tc main_v5) = column1 (V (Proc.devRef .tc main_arg0)) := by
  after_reads_simp
  rfl
theorem zero1 (V : Valuation τ sig (Elt F)) : after hostOps0_2 V (Proc.devRef .tc main_c_0) = constantI S_ 32 0#32 := by
  after_reads_simp
theorem pad1 (V : Valuation τ sig (Elt F)) (h : (V (Proc.devRef .tc main_c_0)) = constantI S_ 32 0#32) : after hostOps0_3 V (Proc.devRef .tc main_v6) =
    pad S20480 ![0] ![480] ![0] (V (Proc.devRef .tc main_v5)) (sitofp .f32 (constantI S_ 32 0#32)) pads_S20000_S20480_04800 h_S_ := by
  after_reads_simp
  simp -implicitDefEqProofs only [StableHlo.TRef.toBuf, StableHlo.TRef.ofBuf, cast_cast, cast_eq]
  rw [h]
theorem fold1 (V : Valuation τ sig (Elt F)) : after hostOps0_4 V (Proc.devRef .tc main_v7) = shapeCast S160x128 (V (Proc.devRef .tc main_v6)) shapeCasts_S20480_S160x128 := by
  after_reads_simp
  rfl
theorem col2 (V : Valuation τ sig (Elt F)) : after hostOps0_4 V (Proc.devRef .tc main_v9) = column2 (V (Proc.devRef .tc main_arg0)) := by
  after_reads_simp
  rfl
theorem zero2 (V : Valuation τ sig (Elt F)) : after hostOps0_4 V (Proc.devRef .tc main_c_1) = constantI S_ 32 0#32 := by
  after_reads_simp
theorem pad2 (V : Valuation τ sig (Elt F)) (h : (V (Proc.devRef .tc main_c_1)) = constantI S_ 32 0#32) : after hostOps0_5 V (Proc.devRef .tc main_v10) =
    pad S20480 ![0] ![480] ![0] (V (Proc.devRef .tc main_v9)) (sitofp .f32 (constantI S_ 32 0#32)) pads_S20000_S20480_04800 h_S_ := by
  after_reads_simp
  simp -implicitDefEqProofs only [StableHlo.TRef.toBuf, StableHlo.TRef.ofBuf, cast_cast, cast_eq]
  rw [h]
theorem fold2 (V : Valuation τ sig (Elt F)) : after hostOps0_6 V (Proc.devRef .tc main_v11) = shapeCast S160x128 (V (Proc.devRef .tc main_v10)) shapeCasts_S20480_S160x128 := by
  after_reads_simp
  rfl
theorem col3 (V : Valuation τ sig (Elt F)) : after hostOps0_6 V (Proc.devRef .tc main_v13) = column3 (V (Proc.devRef .tc main_arg0)) := by
  after_reads_simp
  rfl
theorem zero3 (V : Valuation τ sig (Elt F)) : after hostOps0_6 V (Proc.devRef .tc main_c_2) = constantI S_ 32 0#32 := by
  after_reads_simp
theorem pad3 (V : Valuation τ sig (Elt F)) (h : (V (Proc.devRef .tc main_c_2)) = constantI S_ 32 0#32) : after hostOps0_7 V (Proc.devRef .tc main_v14) =
    pad S20480 ![0] ![480] ![0] (V (Proc.devRef .tc main_v13)) (sitofp .f32 (constantI S_ 32 0#32)) pads_S20000_S20480_04800 h_S_ := by
  after_reads_simp
  simp -implicitDefEqProofs only [StableHlo.TRef.toBuf, StableHlo.TRef.ofBuf, cast_cast, cast_eq]
  rw [h]
theorem fold3 (V : Valuation τ sig (Elt F)) : after hostOps0_8 V (Proc.devRef .tc main_v15) = shapeCast S160x128 (V (Proc.devRef .tc main_v14)) shapeCasts_S20480_S160x128 := by
  after_reads_simp
  rfl
theorem col4 (V : Valuation τ sig (Elt F)) : after hostOps0_8 V (Proc.devRef .tc main_v17) = column0 (V (Proc.devRef .tc main_arg1)) := by
  after_reads_simp
  rfl
theorem zero4 (V : Valuation τ sig (Elt F)) : after hostOps0_8 V (Proc.devRef .tc main_c_3) = constantI S_ 32 0#32 := by
  after_reads_simp
theorem pad4 (V : Valuation τ sig (Elt F)) (h : (V (Proc.devRef .tc main_c_3)) = constantI S_ 32 0#32) : after hostOps0_9 V (Proc.devRef .tc main_v18) =
    pad S20480 ![0] ![480] ![0] (V (Proc.devRef .tc main_v17)) (sitofp .f32 (constantI S_ 32 0#32)) pads_S20000_S20480_04800 h_S_ := by
  after_reads_simp
  simp -implicitDefEqProofs only [StableHlo.TRef.toBuf, StableHlo.TRef.ofBuf, cast_cast, cast_eq]
  rw [h]
theorem fold4 (V : Valuation τ sig (Elt F)) : after hostOps0_10 V (Proc.devRef .tc main_v19) = shapeCast S160x128 (V (Proc.devRef .tc main_v18)) shapeCasts_S20480_S160x128 := by
  after_reads_simp
  rfl
theorem col5 (V : Valuation τ sig (Elt F)) : after hostOps0_10 V (Proc.devRef .tc main_v21) = column1 (V (Proc.devRef .tc main_arg1)) := by
  after_reads_simp
  rfl
theorem zero5 (V : Valuation τ sig (Elt F)) : after hostOps0_10 V (Proc.devRef .tc main_c_4) = constantI S_ 32 0#32 := by
  after_reads_simp
theorem pad5 (V : Valuation τ sig (Elt F)) (h : (V (Proc.devRef .tc main_c_4)) = constantI S_ 32 0#32) : after hostOps0_11 V (Proc.devRef .tc main_v22) =
    pad S20480 ![0] ![480] ![0] (V (Proc.devRef .tc main_v21)) (sitofp .f32 (constantI S_ 32 0#32)) pads_S20000_S20480_04800 h_S_ := by
  after_reads_simp
  simp -implicitDefEqProofs only [StableHlo.TRef.toBuf, StableHlo.TRef.ofBuf, cast_cast, cast_eq]
  rw [h]
theorem fold5 (V : Valuation τ sig (Elt F)) : after hostOps0_12 V (Proc.devRef .tc main_v23) = shapeCast S160x128 (V (Proc.devRef .tc main_v22)) shapeCasts_S20480_S160x128 := by
  after_reads_simp
  rfl
theorem col6 (V : Valuation τ sig (Elt F)) : after hostOps0_12 V (Proc.devRef .tc main_v25) = column2 (V (Proc.devRef .tc main_arg1)) := by
  after_reads_simp
  rfl
theorem zero6 (V : Valuation τ sig (Elt F)) : after hostOps0_12 V (Proc.devRef .tc main_c_5) = constantI S_ 32 0#32 := by
  after_reads_simp
theorem pad6 (V : Valuation τ sig (Elt F)) (h : (V (Proc.devRef .tc main_c_5)) = constantI S_ 32 0#32) : after hostOps0_13 V (Proc.devRef .tc main_v26) =
    pad S20480 ![0] ![480] ![0] (V (Proc.devRef .tc main_v25)) (sitofp .f32 (constantI S_ 32 0#32)) pads_S20000_S20480_04800 h_S_ := by
  after_reads_simp
  simp -implicitDefEqProofs only [StableHlo.TRef.toBuf, StableHlo.TRef.ofBuf, cast_cast, cast_eq]
  rw [h]
theorem fold6 (V : Valuation τ sig (Elt F)) : after hostOps0_14 V (Proc.devRef .tc main_v27) = shapeCast S160x128 (V (Proc.devRef .tc main_v26)) shapeCasts_S20480_S160x128 := by
  after_reads_simp
  rfl
theorem col7 (V : Valuation τ sig (Elt F)) : after hostOps0_14 V (Proc.devRef .tc main_v29) = column3 (V (Proc.devRef .tc main_arg1)) := by
  after_reads_simp
  rfl
theorem zero7 (V : Valuation τ sig (Elt F)) : after hostOps0_14 V (Proc.devRef .tc main_c_6) = constantI S_ 32 0#32 := by
  after_reads_simp
theorem pad7 (V : Valuation τ sig (Elt F)) (h : (V (Proc.devRef .tc main_c_6)) = constantI S_ 32 0#32) : after hostOps0_15 V (Proc.devRef .tc main_v30) =
    pad S20480 ![0] ![480] ![0] (V (Proc.devRef .tc main_v29)) (sitofp .f32 (constantI S_ 32 0#32)) pads_S20000_S20480_04800 h_S_ := by
  after_reads_simp
  simp -implicitDefEqProofs only [StableHlo.TRef.toBuf, StableHlo.TRef.ofBuf, cast_cast, cast_eq]
  rw [h]
theorem fold7 (V : Valuation τ sig (Elt F)) : after hostOps0_16 V (Proc.devRef .tc main_v31) = shapeCast S160x128 (V (Proc.devRef .tc main_v30)) shapeCasts_S20480_S160x128 := by
  after_reads_simp
  rfl
theorem zero8 (V : Valuation τ sig (Elt F)) : after hostOps0_16 V (Proc.devRef .tc main_c_7) = constantI S_ 32 0#32 := by
  after_reads_simp
theorem pad8 (V : Valuation τ sig (Elt F)) (h : (V (Proc.devRef .tc main_c_7)) = constantI S_ 32 0#32) : after hostOps0_17 V (Proc.devRef .tc main_v32) =
    pad S20480 ![0] ![480] ![0] (V (Proc.devRef .tc main_arg2)) (sitofp .f32 (constantI S_ 32 0#32)) pads_S20000_S20480_04800 h_S_ := by
  after_reads_simp
  simp -implicitDefEqProofs only [StableHlo.TRef.toBuf, StableHlo.TRef.ofBuf, cast_cast, cast_eq]
  rw [h]
theorem fold8 (V : Valuation τ sig (Elt F)) : after hostOps0_18 V (Proc.devRef .tc main_v33) = shapeCast S160x128 (V (Proc.devRef .tc main_v32)) shapeCasts_S20480_S160x128 := by
  after_reads_simp
  rfl

theorem lane0 (V : Valuation τ sig (Elt F)) : upto hostOps1 V 12 (Proc.devRef .tc main_v43) = lane (flat (V (Proc.devRef .tc main_v34_0))) := by
  after_reads_simp
  unfold lane flat
  rfl
theorem lane1 (V : Valuation τ sig (Elt F)) : upto hostOps1 V 12 (Proc.devRef .tc main_v44) = lane (flat (V (Proc.devRef .tc main_v34_1))) := by
  after_reads_simp
  unfold lane flat
  rfl
theorem lane2 (V : Valuation τ sig (Elt F)) : upto hostOps1 V 12 (Proc.devRef .tc main_v45) = lane (flat (V (Proc.devRef .tc main_v34_2))) := by
  after_reads_simp
  unfold lane flat
  rfl
theorem lane3 (V : Valuation τ sig (Elt F)) : upto hostOps1 V 12 (Proc.devRef .tc main_v46) = lane (flat (V (Proc.devRef .tc main_v34_3))) := by
  after_reads_simp
  unfold lane flat
  rfl

/-- The boxes the first kernel leaves, as a table. -/
def table (V : Valuation τ sig (Elt F)) : FVec F S20000x4 .f32 :=
  stack (lane (flat (V (Proc.devRef .tc main_v34_0)))) (lane (flat (V (Proc.devRef .tc main_v34_1)))) (lane (flat (V (Proc.devRef .tc main_v34_2)))) (lane (flat (V (Proc.devRef .tc main_v34_3))))

theorem mid_values (V : Valuation τ sig (Elt F)) : after hostOps1 V (Proc.devRef .tc main_values) = best (flat (V (Proc.devRef .tc main_v34_4))) := by
  after_reads_simp
  unfold best flat
  rfl
theorem mid_chosen (V : Valuation τ sig (Elt F)) : after hostOps1 V (Proc.devRef .tc main_v56) = chosen (table V) (bestAt (flat (V (Proc.devRef .tc main_v34_4)))) := by
  after_reads_simp
  refine Eq.trans (b := chosen (stack (upto hostOps1 V 12 (Proc.devRef .tc main_v43)) (upto hostOps1 V 12 (Proc.devRef .tc main_v44)) (upto hostOps1 V 12 (Proc.devRef .tc main_v45)) (upto hostOps1 V 12 (Proc.devRef .tc main_v46))) (bestAt (flat (V (Proc.devRef .tc main_v34_4))))) (by unfold chosen stack wrap20000 bestAt flat; rfl) ?_
  rw [lane0 V, lane1 V, lane2 V, lane3 V]
  unfold table
  with_reducible rfl
theorem mid_zero (V : Valuation τ sig (Elt F)) : after hostOps1 V (Proc.devRef .tc main_c_10) = constantI S_ 32 0#32 := by
  after_reads_simp
theorem mid_long (V : Valuation τ sig (Elt F)) (h : (V (Proc.devRef .tc main_c_10)) = constantI S_ 32 0#32) : after hostOps1_1 V (Proc.devRef .tc main_v57) = long (V (Proc.devRef .tc main_v56)) := by
  after_reads_simp
  simp -implicitDefEqProofs only [StableHlo.TRef.toBuf, StableHlo.TRef.ofBuf, cast_cast, cast_eq]
  rw [h]
  unfold long
  with_reducible rfl

end Cert.Proof.KernelIdeal
-- ==== Proof.Decode.lean ====
/- One box out of one anchor and its shifts, one side at a time: the two clipped edges along a direction, and the score of a
   box that has an area. -/
module

public import Idealize.ShloMosaic.Lib.Pointwise

@[expose] public section

noncomputable section

namespace Cert.Proof

open Idealize.ShloMosaic

/-- The middle of the shifted anchor, whose edges are `a` and `b`, under the shift `d`. -/
def middle (a b d : EReal) : EReal := d * (b - a) + (a + Ideal.ofBits .f32 1056964608#32 * (b - a))

/-- Half of the scaled extent. -/
def half (a b e : EReal) : EReal :=
  Ideal.ofBits .f32 1056964608#32 * (Ideal.exp (min e (Ideal.ofBits .f32 1082130432#32)) * (b - a))

/-- A coordinate clipped to the picture. -/
def clip (x : EReal) : EReal := min (Ideal.ofBits .f32 1149239296#32) (max 0 x)

/-- The lower edge. -/
def lower (a b d e : EReal) : EReal := clip (middle a b d - half a b e)

/-- The upper edge. -/
def upper (a b d e : EReal) : EReal := clip (middle a b d + half a b e)

/-- The score of a box, kept where it has an extent both ways. -/
def scored (x1 y1 x2 y2 s : EReal) : EReal :=
  Scalar.select (IntOp.andi (BitVec.ofBool (decide (0 < x2 - x1))) (BitVec.ofBool (decide (0 < y2 - y1)))) s (Ideal.ofBits .f32 4286578688#32)

/-- The left edge of box `i`, from the anchors `a` and the shifts `d`. -/
def edge0 (a d : (⟨2, ![20000, 4]⟩ : Shape).Idx → EReal) (i : Fin 20000) : EReal := lower (a (ix2 i 0)) (a (ix2 i 2)) (d (ix2 i 0)) (d (ix2 i 2))
/-- The top edge. -/
def edge1 (a d : (⟨2, ![20000, 4]⟩ : Shape).Idx → EReal) (i : Fin 20000) : EReal := lower (a (ix2 i 1)) (a (ix2 i 3)) (d (ix2 i 1)) (d (ix2 i 3))
/-- The right edge. -/
def edge2 (a d : (⟨2, ![20000, 4]⟩ : Shape).Idx → EReal) (i : Fin 20000) : EReal := upper (a (ix2 i 0)) (a (ix2 i 2)) (d (ix2 i 0)) (d (ix2 i 2))
/-- The bottom edge. -/
def edge3 (a d : (⟨2, ![20000, 4]⟩ : Shape).Idx → EReal) (i : Fin 20000) : EReal := upper (a (ix2 i 1)) (a (ix2 i 3)) (d (ix2 i 1)) (d (ix2 i 3))

/-- All the boxes, as a table of their four edges. -/
def boxes (a d : (⟨2, ![20000, 4]⟩ : Shape).Idx → EReal) : (⟨2, ![20000, 4]⟩ : Shape).Idx → EReal :=
  fun x => ![edge0 a d (x 0), edge1 a d (x 0), edge2 a d (x 0), edge3 a d (x 0)] (x 1)

/-- All the scores, each kept where its box has an area. -/
def scores (a d : (⟨2, ![20000, 4]⟩ : Shape).Idx → EReal) (s : (⟨1, ![20000]⟩ : Shape).Idx → EReal) : (⟨1, ![20000]⟩ : Shape).Idx → EReal :=
  fun x => scored (edge0 a d (x 0)) (edge1 a d (x 0)) (edge2 a d (x 0)) (edge3 a d (x 0)) (s x)

end Cert.Proof
-- ==== Proof.WindowsKernelIdeal.lean ====
/- What the two kernels' windows hold: each input window its whole array, and after a run each output array what the body leaves
   (`KernelIdeal`). -/
module

public import proofs.«01_k».proof.Proof.RunKernelIdeal
public import proofs.«01_k».proof.Proof.Decode
public import Idealize.ShloMosaic.Lib.Pipeline.ValueKit.Point

@[expose] public section

set_option maxRecDepth 16384

noncomputable section

namespace Cert.Proof.KernelIdeal

open Cert.KernelIdeal Cert.KernelIdeal.Gen Idealize.ShloMosaic Idealize.ShloMosaic.TcCoe StableHlo
open Pipeline

section

variable (V : (c : Dev nD) → (b : Ref sig .tc) → Buf (Elt Ideal) ((c : Thread nD τ).loc b))

theorem index0_0 (t : Fin cfg0.N) (a : Fin 2) : win0_0.index t a = 0 := by revert t a; decide +kernel
/-- Input window 0 of kernel 0 holds its whole array. -/
theorem blk0_0 (c : Dev nD) (t : Fin cfg0.N) : iblk0 V c 0 t = V c main_v3 := by
  funext j
  blk_ext [iblk0, index0_0 t]
theorem index0_1 (t : Fin cfg0.N) (a : Fin 2) : win0_1.index t a = 0 := by revert t a; decide +kernel
/-- Input window 1 of kernel 0 holds its whole array. -/
theorem blk0_1 (c : Dev nD) (t : Fin cfg0.N) : iblk0 V c 1 t = V c main_v7 := by
  funext j
  blk_ext [iblk0, index0_1 t]
theorem index0_2 (t : Fin cfg0.N) (a : Fin 2) : win0_2.index t a = 0 := by revert t a; decide +kernel
/-- Input window 2 of kernel 0 holds its whole array. -/
theorem blk0_2 (c : Dev nD) (t : Fin cfg0.N) : iblk0 V c 2 t = V c main_v11 := by
  funext j
  blk_ext [iblk0, index0_2 t]
theorem index0_3 (t : Fin cfg0.N) (a : Fin 2) : win0_3.index t a = 0 := by revert t a; decide +kernel
/-- Input window 3 of kernel 0 holds its whole array. -/
theorem blk0_3 (c : Dev nD) (t : Fin cfg0.N) : iblk0 V c 3 t = V c main_v15 := by
  funext j
  blk_ext [iblk0, index0_3 t]
theorem index0_4 (t : Fin cfg0.N) (a : Fin 2) : win0_4.index t a = 0 := by revert t a; decide +kernel
/-- Input window 4 of kernel 0 holds its whole array. -/
theorem blk0_4 (c : Dev nD) (t : Fin cfg0.N) : iblk0 V c 4 t = V c main_v19 := by
  funext j
  blk_ext [iblk0, index0_4 t]
theorem index0_5 (t : Fin cfg0.N) (a : Fin 2) : win0_5.index t a = 0 := by revert t a; decide +kernel
/-- Input window 5 of kernel 0 holds its whole array. -/
theorem blk0_5 (c : Dev nD) (t : Fin cfg0.N) : iblk0 V c 5 t = V c main_v23 := by
  funext j
  blk_ext [iblk0, index0_5 t]
theorem index0_6 (t : Fin cfg0.N) (a : Fin 2) : win0_6.index t a = 0 := by revert t a; decide +kernel
/-- Input window 6 of kernel 0 holds its whole array. -/
theorem blk0_6 (c : Dev nD) (t : Fin cfg0.N) : iblk0 V c 6 t = V c main_v27 := by
  funext j
  blk_ext [iblk0, index0_6 t]
theorem index0_7 (t : Fin cfg0.N) (a : Fin 2) : win0_7.index t a = 0 := by revert t a; decide +kernel
/-- Input window 7 of kernel 0 holds its whole array. -/
theorem blk0_7 (c : Dev nD) (t : Fin cfg0.N) : iblk0 V c 7 t = V c main_v31 := by
  funext j
  blk_ext [iblk0, index0_7 t]
theorem index0_8 (t : Fin cfg0.N) (a : Fin 2) : win0_8.index t a = 0 := by revert t a; decide +kernel
/-- Input window 8 of kernel 0 holds its whole array. -/
theorem blk0_8 (c : Dev nD) (t : Fin cfg0.N) : iblk0 V c 8 t = V c main_v33 := by
  funext j
  blk_ext [iblk0, index0_8 t]
theorem index1_0 (t : Fin cfg1.N) (a : Fin 2) : win1_0.index t a = 0 := by revert t a; decide +kernel
/-- Input window 0 of kernel 1 holds its whole array. -/
theorem blk1_0 (c : Dev nD) (t : Fin cfg1.N) : iblk1 V c 0 t = V c main_v60 := by
  funext j
  blk_ext [iblk1, index1_0 t]
theorem index1_1 (t : Fin cfg1.N) (a : Fin 2) : win1_1.index t a = 0 := by revert t a; decide +kernel
/-- Input window 1 of kernel 1 holds its whole array. -/
theorem blk1_1 (c : Dev nD) (t : Fin cfg1.N) : iblk1 V c 1 t = V c main_v63 := by
  funext j
  blk_ext [iblk1, index1_1 t]
theorem index1_2 (t : Fin cfg1.N) (a : Fin 2) : win1_2.index t a = 0 := by revert t a; decide +kernel
/-- Input window 2 of kernel 1 holds its whole array. -/
theorem blk1_2 (c : Dev nD) (t : Fin cfg1.N) : iblk1 V c 2 t = V c main_v66 := by
  funext j
  blk_ext [iblk1, index1_2 t]
theorem index1_3 (t : Fin cfg1.N) (a : Fin 2) : win1_3.index t a = 0 := by revert t a; decide +kernel
/-- Input window 3 of kernel 1 holds its whole array. -/
theorem blk1_3 (c : Dev nD) (t : Fin cfg1.N) : iblk1 V c 3 t = V c main_v69 := by
  funext j
  blk_ext [iblk1, index1_3 t]
theorem index1_4 (t : Fin cfg1.N) (a : Fin 2) : win1_4.index t a = 0 := by revert t a; decide +kernel
/-- Input window 4 of kernel 1 holds its whole array. -/
theorem blk1_4 (c : Dev nD) (t : Fin cfg1.N) : iblk1 V c 4 t = V c main_v72 := by
  funext j
  blk_ext [iblk1, index1_4 t]
theorem index1_5 (t : Fin cfg1.N) (a : Fin 2) : win1_5.index t a = 0 := by revert t a; decide +kernel
/-- Input window 5 of kernel 1 holds its whole array. -/
theorem blk1_5 (c : Dev nD) (t : Fin cfg1.N) : iblk1 V c 5 t = V c main_v75 := by
  funext j
  blk_ext [iblk1, index1_5 t]
theorem index1_6 (t : Fin cfg1.N) (a : Fin 2) : win1_6.index t a = 0 := by revert t a; decide +kernel
/-- Input window 6 of kernel 1 holds its whole array. -/
theorem blk1_6 (c : Dev nD) (t : Fin cfg1.N) : iblk1 V c 6 t = V c main_v78 := by
  funext j
  blk_ext [iblk1, index1_6 t]
theorem index1_7 (t : Fin cfg1.N) (a : Fin 2) : win1_7.index t a = 0 := by revert t a; decide +kernel
/-- Input window 7 of kernel 1 holds its whole array. -/
theorem blk1_7 (c : Dev nD) (t : Fin cfg1.N) : iblk1 V c 7 t = V c main_v81 := by
  funext j
  blk_ext [iblk1, index1_7 t]

end

variable (m : (ℓ : Loc nD τ sig) → Buf (Elt Ideal) ℓ) (ρ : Dev nD → PrngReg)

theorem array0_9 (c : Dev nD) : W20 m ρ c (Proc.devRef .tc main_v34_0) = out0_9 (W19 m ρ c (Proc.devRef .tc main_v3)) (W19 m ρ c (Proc.devRef .tc main_v7)) (W19 m ρ c (Proc.devRef .tc main_v11)) (W19 m ρ c (Proc.devRef .tc main_v15)) (W19 m ρ c (Proc.devRef .tc main_v19)) (W19 m ρ c (Proc.devRef .tc main_v23)) (W19 m ρ c (Proc.devRef .tc main_v27)) (W19 m ρ c (Proc.devRef .tc main_v31)) (W19 m ρ c (Proc.devRef .tc main_v33)) := by
  funext x
  refine (congrFun (W20_arr m ρ c 9) x).trans ?_
  refine (Dat.arrAt_emb_eq_after_last (dat0 (V19 m ρ) c) 9 ⟨0, by decide⟩ (by decide +kernel) x).trans ?_
  refine (congrFun (after0_9 (V19 m ρ) c ⟨0, by decide⟩) x).trans ?_
  rw [blk0_0 (V19 m ρ) c ⟨0, by decide⟩]
  rw [blk0_1 (V19 m ρ) c ⟨0, by decide⟩]
  rw [blk0_2 (V19 m ρ) c ⟨0, by decide⟩]
  rw [blk0_3 (V19 m ρ) c ⟨0, by decide⟩]
  rw [blk0_4 (V19 m ρ) c ⟨0, by decide⟩]
  rw [blk0_5 (V19 m ρ) c ⟨0, by decide⟩]
  rw [blk0_6 (V19 m ρ) c ⟨0, by decide⟩]
  rw [blk0_7 (V19 m ρ) c ⟨0, by decide⟩]
  rw [blk0_8 (V19 m ρ) c ⟨0, by decide⟩]
theorem array0_10 (c : Dev nD) : W20 m ρ c (Proc.devRef .tc main_v34_1) = out0_10 (W19 m ρ c (Proc.devRef .tc main_v3)) (W19 m ρ c (Proc.devRef .tc main_v7)) (W19 m ρ c (Proc.devRef .tc main_v11)) (W19 m ρ c (Proc.devRef .tc main_v15)) (W19 m ρ c (Proc.devRef .tc main_v19)) (W19 m ρ c (Proc.devRef .tc main_v23)) (W19 m ρ c (Proc.devRef .tc main_v27)) (W19 m ρ c (Proc.devRef .tc main_v31)) (W19 m ρ c (Proc.devRef .tc main_v33)) := by
  funext x
  refine (congrFun (W20_arr m ρ c 10) x).trans ?_
  refine (Dat.arrAt_emb_eq_after_last (dat0 (V19 m ρ) c) 10 ⟨0, by decide⟩ (by decide +kernel) x).trans ?_
  refine (congrFun (after0_10 (V19 m ρ) c ⟨0, by decide⟩) x).trans ?_
  rw [blk0_0 (V19 m ρ) c ⟨0, by decide⟩]
  rw [blk0_1 (V19 m ρ) c ⟨0, by decide⟩]
  rw [blk0_2 (V19 m ρ) c ⟨0, by decide⟩]
  rw [blk0_3 (V19 m ρ) c ⟨0, by decide⟩]
  rw [blk0_4 (V19 m ρ) c ⟨0, by decide⟩]
  rw [blk0_5 (V19 m ρ) c ⟨0, by decide⟩]
  rw [blk0_6 (V19 m ρ) c ⟨0, by decide⟩]
  rw [blk0_7 (V19 m ρ) c ⟨0, by decide⟩]
  rw [blk0_8 (V19 m ρ) c ⟨0, by decide⟩]
theorem array0_11 (c : Dev nD) : W20 m ρ c (Proc.devRef .tc main_v34_2) = out0_11 (W19 m ρ c (Proc.devRef .tc main_v3)) (W19 m ρ c (Proc.devRef .tc main_v7)) (W19 m ρ c (Proc.devRef .tc main_v11)) (W19 m ρ c (Proc.devRef .tc main_v15)) (W19 m ρ c (Proc.devRef .tc main_v19)) (W19 m ρ c (Proc.devRef .tc main_v23)) (W19 m ρ c (Proc.devRef .tc main_v27)) (W19 m ρ c (Proc.devRef .tc main_v31)) (W19 m ρ c (Proc.devRef .tc main_v33)) := by
  funext x
  refine (congrFun (W20_arr m ρ c 11) x).trans ?_
  refine (Dat.arrAt_emb_eq_after_last (dat0 (V19 m ρ) c) 11 ⟨0, by decide⟩ (by decide +kernel) x).trans ?_
  refine (congrFun (after0_11 (V19 m ρ) c ⟨0, by decide⟩) x).trans ?_
  rw [blk0_0 (V19 m ρ) c ⟨0, by decide⟩]
  rw [blk0_1 (V19 m ρ) c ⟨0, by decide⟩]
  rw [blk0_2 (V19 m ρ) c ⟨0, by decide⟩]
  rw [blk0_3 (V19 m ρ) c ⟨0, by decide⟩]
  rw [blk0_4 (V19 m ρ) c ⟨0, by decide⟩]
  rw [blk0_5 (V19 m ρ) c ⟨0, by decide⟩]
  rw [blk0_6 (V19 m ρ) c ⟨0, by decide⟩]
  rw [blk0_7 (V19 m ρ) c ⟨0, by decide⟩]
  rw [blk0_8 (V19 m ρ) c ⟨0, by decide⟩]
theorem array0_12 (c : Dev nD) : W20 m ρ c (Proc.devRef .tc main_v34_3) = out0_12 (W19 m ρ c (Proc.devRef .tc main_v3)) (W19 m ρ c (Proc.devRef .tc main_v7)) (W19 m ρ c (Proc.devRef .tc main_v11)) (W19 m ρ c (Proc.devRef .tc main_v15)) (W19 m ρ c (Proc.devRef .tc main_v19)) (W19 m ρ c (Proc.devRef .tc main_v23)) (W19 m ρ c (Proc.devRef .tc main_v27)) (W19 m ρ c (Proc.devRef .tc main_v31)) (W19 m ρ c (Proc.devRef .tc main_v33)) := by
  funext x
  refine (congrFun (W20_arr m ρ c 12) x).trans ?_
  refine (Dat.arrAt_emb_eq_after_last (dat0 (V19 m ρ) c) 12 ⟨0, by decide⟩ (by decide +kernel) x).trans ?_
  refine (congrFun (after0_12 (V19 m ρ) c ⟨0, by decide⟩) x).trans ?_
  rw [blk0_0 (V19 m ρ) c ⟨0, by decide⟩]
  rw [blk0_1 (V19 m ρ) c ⟨0, by decide⟩]
  rw [blk0_2 (V19 m ρ) c ⟨0, by decide⟩]
  rw [blk0_3 (V19 m ρ) c ⟨0, by decide⟩]
  rw [blk0_4 (V19 m ρ) c ⟨0, by decide⟩]
  rw [blk0_5 (V19 m ρ) c ⟨0, by decide⟩]
  rw [blk0_6 (V19 m ρ) c ⟨0, by decide⟩]
  rw [blk0_7 (V19 m ρ) c ⟨0, by decide⟩]
  rw [blk0_8 (V19 m ρ) c ⟨0, by decide⟩]
theorem array0_13 (c : Dev nD) : W20 m ρ c (Proc.devRef .tc main_v34_4) = out0_13 (W19 m ρ c (Proc.devRef .tc main_v3)) (W19 m ρ c (Proc.devRef .tc main_v7)) (W19 m ρ c (Proc.devRef .tc main_v11)) (W19 m ρ c (Proc.devRef .tc main_v15)) (W19 m ρ c (Proc.devRef .tc main_v19)) (W19 m ρ c (Proc.devRef .tc main_v23)) (W19 m ρ c (Proc.devRef .tc main_v27)) (W19 m ρ c (Proc.devRef .tc main_v31)) (W19 m ρ c (Proc.devRef .tc main_v33)) := by
  funext x
  refine (congrFun (W20_arr m ρ c 13) x).trans ?_
  refine (Dat.arrAt_emb_eq_after_last (dat0 (V19 m ρ) c) 13 ⟨0, by decide⟩ (by decide +kernel) x).trans ?_
  refine (congrFun (after0_13 (V19 m ρ) c ⟨0, by decide⟩) x).trans ?_
  rw [blk0_0 (V19 m ρ) c ⟨0, by decide⟩]
  rw [blk0_1 (V19 m ρ) c ⟨0, by decide⟩]
  rw [blk0_2 (V19 m ρ) c ⟨0, by decide⟩]
  rw [blk0_3 (V19 m ρ) c ⟨0, by decide⟩]
  rw [blk0_4 (V19 m ρ) c ⟨0, by decide⟩]
  rw [blk0_5 (V19 m ρ) c ⟨0, by decide⟩]
  rw [blk0_6 (V19 m ρ) c ⟨0, by decide⟩]
  rw [blk0_7 (V19 m ρ) c ⟨0, by decide⟩]
  rw [blk0_8 (V19 m ρ) c ⟨0, by decide⟩]
theorem array1_8 (c : Dev nD) : W24 m ρ c (Proc.devRef .tc main_v82) = keepAt (W23 m ρ c (Proc.devRef .tc main_v60)) (W23 m ρ c (Proc.devRef .tc main_v63)) (W23 m ρ c (Proc.devRef .tc main_v66)) (W23 m ρ c (Proc.devRef .tc main_v69)) (W23 m ρ c (Proc.devRef .tc main_v72)) (W23 m ρ c (Proc.devRef .tc main_v75)) (W23 m ρ c (Proc.devRef .tc main_v78)) (W23 m ρ c (Proc.devRef .tc main_v81)) k1_t1_loop.trips := by
  funext x
  refine (congrFun (W24_arr m ρ c 8) x).trans ?_
  refine (Dat.arrAt_emb_eq_after_last (dat1 (V23 m ρ) c) 8 ⟨0, by decide⟩ (by decide +kernel) x).trans ?_
  refine (congrFun (after1_8 (V23 m ρ) c ⟨0, by decide⟩) x).trans ?_
  rw [blk1_0 (V23 m ρ) c ⟨0, by decide⟩]
  rw [blk1_1 (V23 m ρ) c ⟨0, by decide⟩]
  rw [blk1_2 (V23 m ρ) c ⟨0, by decide⟩]
  rw [blk1_3 (V23 m ρ) c ⟨0, by decide⟩]
  rw [blk1_4 (V23 m ρ) c ⟨0, by decide⟩]
  rw [blk1_5 (V23 m ρ) c ⟨0, by decide⟩]
  rw [blk1_6 (V23 m ρ) c ⟨0, by decide⟩]
  rw [blk1_7 (V23 m ρ) c ⟨0, by decide⟩]

/-! ### The edges and the score at an entry -/

theorem out0_9_at (x0 x1 x2 x3 x4 x5 x6 x7 x8 : Vec Ideal S160x128 .f32) (p : Fin 160) (q : Fin 128) : out0_9 x0 x1 x2 x3 x4 x5 x6 x7 x8 (ix2 p q) = (lower (x0 (ix2 p q)) (x2 (ix2 p q)) (x4 (ix2 p q)) (x6 (ix2 p q))) := by
  unfold out0_9
  rw [View.canon_unit_zero (by funext a; fin_cases a <;> rfl)]
  unfold_payloads
  pointwise
  first | rfl | (unfold scored; rfl)
theorem out0_10_at (x0 x1 x2 x3 x4 x5 x6 x7 x8 : Vec Ideal S160x128 .f32) (p : Fin 160) (q : Fin 128) : out0_10 x0 x1 x2 x3 x4 x5 x6 x7 x8 (ix2 p q) = (lower (x1 (ix2 p q)) (x3 (ix2 p q)) (x5 (ix2 p q)) (x7 (ix2 p q))) := by
  unfold out0_10
  rw [View.canon_unit_zero (by funext a; fin_cases a <;> rfl)]
  unfold_payloads
  pointwise
  first | rfl | (unfold scored; rfl)
theorem out0_11_at (x0 x1 x2 x3 x4 x5 x6 x7 x8 : Vec Ideal S160x128 .f32) (p : Fin 160) (q : Fin 128) : out0_11 x0 x1 x2 x3 x4 x5 x6 x7 x8 (ix2 p q) = (upper (x0 (ix2 p q)) (x2 (ix2 p q)) (x4 (ix2 p q)) (x6 (ix2 p q))) := by
  unfold out0_11
  rw [View.canon_unit_zero (by funext a; fin_cases a <;> rfl)]
  unfold_payloads
  pointwise
  first | rfl | (unfold scored; rfl)
theorem out0_12_at (x0 x1 x2 x3 x4 x5 x6 x7 x8 : Vec Ideal S160x128 .f32) (p : Fin 160) (q : Fin 128) : out0_12 x0 x1 x2 x3 x4 x5 x6 x7 x8 (ix2 p q) = (upper (x1 (ix2 p q)) (x3 (ix2 p q)) (x5 (ix2 p q)) (x7 (ix2 p q))) := by
  unfold out0_12
  rw [View.canon_unit_zero (by funext a; fin_cases a <;> rfl)]
  unfold_payloads
  pointwise
  first | rfl | (unfold scored; rfl)
theorem out0_13_at (x0 x1 x2 x3 x4 x5 x6 x7 x8 : Vec Ideal S160x128 .f32) (p : Fin 160) (q : Fin 128) : out0_13 x0 x1 x2 x3 x4 x5 x6 x7 x8 (ix2 p q) = scored (lower (x0 (ix2 p q)) (x2 (ix2 p q)) (x4 (ix2 p q)) (x6 (ix2 p q))) (lower (x1 (ix2 p q)) (x3 (ix2 p q)) (x5 (ix2 p q)) (x7 (ix2 p q))) (upper (x0 (ix2 p q)) (x2 (ix2 p q)) (x4 (ix2 p q)) (x6 (ix2 p q))) (upper (x1 (ix2 p q)) (x3 (ix2 p q)) (x5 (ix2 p q)) (x7 (ix2 p q))) (x8 (ix2 p q)) := by
  unfold out0_13
  rw [View.canon_unit_zero (by funext a; fin_cases a <;> rfl)]
  unfold_payloads
  pointwise
  first | rfl | (unfold scored; rfl)

end Cert.Proof.KernelIdeal
-- ==== Proof.EntryKernelIdeal.lean ====
/- What the first kernel is given, and the boxes and scores it leaves, over the arguments (`KernelIdeal`). -/
module

public import proofs.«01_k».proof.Proof.HostKernelIdeal
public import proofs.«01_k».proof.Proof.WindowsKernelIdeal

@[expose] public section

set_option maxRecDepth 16384

noncomputable section

namespace Cert.Proof.KernelIdeal

open Cert.KernelIdeal Cert.KernelIdeal.Gen Idealize.ShloMosaic Idealize.ShloMosaic.TcCoe StableHlo

section

variable {F : FTy → Type} [FloatOps F] (m : (ℓ : Loc nD τ sig) → Buf (Elt F) ℓ) (ρ : Dev nD → PrngReg)

/-- Window 0 of the first kernel: its column, padded. -/
theorem given0 (c : Dev nD) : W19 m ρ c (Proc.devRef .tc main_v3) = padded (column0 (m ((c : Thread nD τ).loc main_arg0))) := by
  have carry : W19 m ρ c (Proc.devRef .tc main_v3) = W3 m ρ c (Proc.devRef .tc main_v3) := by
    rw [W19_of m ρ c main_v3 (by decide +kernel), W18_of m ρ c main_v3 (by decide +kernel), W17_of m ρ c main_v3 (by decide +kernel), W16_of m ρ c main_v3 (by decide +kernel), W15_of m ρ c main_v3 (by decide +kernel), W14_of m ρ c main_v3 (by decide +kernel), W13_of m ρ c main_v3 (by decide +kernel), W12_of m ρ c main_v3 (by decide +kernel), W11_of m ρ c main_v3 (by decide +kernel), W10_of m ρ c main_v3 (by decide +kernel), W9_of m ρ c main_v3 (by decide +kernel), W8_of m ρ c main_v3 (by decide +kernel), W7_of m ρ c main_v3 (by decide +kernel), W6_of m ρ c main_v3 (by decide +kernel), W5_of m ρ c main_v3 (by decide +kernel), W4_of m ρ c main_v3 (by decide +kernel)]
  have e1 : W1 m ρ c (Proc.devRef .tc main_v1) = column0 (m ((c : Thread nD τ).loc main_arg0)) :=
    (col0 _).trans (congrArg column0 (W0_args m ρ c main_arg0 (by decide +kernel)))
  refine carry.trans ((fold0 _).trans ?_)
  rw [show W2 m ρ c (Proc.devRef .tc main_v2) = _ from pad0 _ (zero0 _), e1]
  unfold padded
  with_reducible rfl
/-- Window 1 of the first kernel: its column, padded. -/
theorem given1 (c : Dev nD) : W19 m ρ c (Proc.devRef .tc main_v7) = padded (column1 (m ((c : Thread nD τ).loc main_arg0))) := by
  have carry : W19 m ρ c (Proc.devRef .tc main_v7) = W5 m ρ c (Proc.devRef .tc main_v7) := by
    rw [W19_of m ρ c main_v7 (by decide +kernel), W18_of m ρ c main_v7 (by decide +kernel), W17_of m ρ c main_v7 (by decide +kernel), W16_of m ρ c main_v7 (by decide +kernel), W15_of m ρ c main_v7 (by decide +kernel), W14_of m ρ c main_v7 (by decide +kernel), W13_of m ρ c main_v7 (by decide +kernel), W12_of m ρ c main_v7 (by decide +kernel), W11_of m ρ c main_v7 (by decide +kernel), W10_of m ρ c main_v7 (by decide +kernel), W9_of m ρ c main_v7 (by decide +kernel), W8_of m ρ c main_v7 (by decide +kernel), W7_of m ρ c main_v7 (by decide +kernel), W6_of m ρ c main_v7 (by decide +kernel)]
  have e1 : W3 m ρ c (Proc.devRef .tc main_v5) = column1 (m ((c : Thread nD τ).loc main_arg0)) :=
    (col1 _).trans (congrArg column1 (W2_args m ρ c main_arg0 (by decide +kernel)))
  refine carry.trans ((fold1 _).trans ?_)
  rw [show W4 m ρ c (Proc.devRef .tc main_v6) = _ from pad1 _ (zero1 _), e1]
  unfold padded
  with_reducible rfl
/-- Window 2 of the first kernel: its column, padded. -/
theorem given2 (c : Dev nD) : W19 m ρ c (Proc.devRef .tc main_v11) = padded (column2 (m ((c : Thread nD τ).loc main_arg0))) := by
  have carry : W19 m ρ c (Proc.devRef .tc main_v11) = W7 m ρ c (Proc.devRef .tc main_v11) := by
    rw [W19_of m ρ c main_v11 (by decide +kernel), W18_of m ρ c main_v11 (by decide +kernel), W17_of m ρ c main_v11 (by decide +kernel), W16_of m ρ c main_v11 (by decide +kernel), W15_of m ρ c main_v11 (by decide +kernel), W14_of m ρ c main_v11 (by decide +kernel), W13_of m ρ c main_v11 (by decide +kernel), W12_of m ρ c main_v11 (by decide +kernel), W11_of m ρ c main_v11 (by decide +kernel), W10_of m ρ c main_v11 (by decide +kernel), W9_of m ρ c main_v11 (by decide +kernel), W8_of m ρ c main_v11 (by decide +kernel)]
  have e1 : W5 m ρ c (Proc.devRef .tc main_v9) = column2 (m ((c : Thread nD τ).loc main_arg0)) :=
    (col2 _).trans (congrArg column2 (W4_args m ρ c main_arg0 (by decide +kernel)))
  refine carry.trans ((fold2 _).trans ?_)
  rw [show W6 m ρ c (Proc.devRef .tc main_v10) = _ from pad2 _ (zero2 _), e1]
  unfold padded
  with_reducible rfl
/-- Window 3 of the first kernel: its column, padded. -/
theorem given3 (c : Dev nD) : W19 m ρ c (Proc.devRef .tc main_v15) = padded (column3 (m ((c : Thread nD τ).loc main_arg0))) := by
  have carry : W19 m ρ c (Proc.devRef .tc main_v15) = W9 m ρ c (Proc.devRef .tc main_v15) := by
    rw [W19_of m ρ c main_v15 (by decide +kernel), W18_of m ρ c main_v15 (by decide +kernel), W17_of m ρ c main_v15 (by decide +kernel), W16_of m ρ c main_v15 (by decide +kernel), W15_of m ρ c main_v15 (by decide +kernel), W14_of m ρ c main_v15 (by decide +kernel), W13_of m ρ c main_v15 (by decide +kernel), W12_of m ρ c main_v15 (by decide +kernel), W11_of m ρ c main_v15 (by decide +kernel), W10_of m ρ c main_v15 (by decide +kernel)]
  have e1 : W7 m ρ c (Proc.devRef .tc main_v13) = column3 (m ((c : Thread nD τ).loc main_arg0)) :=
    (col3 _).trans (congrArg column3 (W6_args m ρ c main_arg0 (by decide +kernel)))
  refine carry.trans ((fold3 _).trans ?_)
  rw [show W8 m ρ c (Proc.devRef .tc main_v14) = _ from pad3 _ (zero3 _), e1]
  unfold padded
  with_reducible rfl
/-- Window 4 of the first kernel: its column, padded. -/
theorem given4 (c : Dev nD) : W19 m ρ c (Proc.devRef .tc main_v19) = padded (column0 (m ((c : Thread nD τ).loc main_arg1))) := by
  have carry : W19 m ρ c (Proc.devRef .tc main_v19) = W11 m ρ c (Proc.devRef .tc main_v19) := by
    rw [W19_of m ρ c main_v19 (by decide +kernel), W18_of m ρ c main_v19 (by decide +kernel), W17_of m ρ c main_v19 (by decide +kernel), W16_of m ρ c main_v19 (by decide +kernel), W15_of m ρ c main_v19 (by decide +kernel), W14_of m ρ c main_v19 (by decide +kernel), W13_of m ρ c main_v19 (by decide +kernel), W12_of m ρ c main_v19 (by decide +kernel)]
  have e1 : W9 m ρ c (Proc.devRef .tc main_v17) = column0 (m ((c : Thread nD τ).loc main_arg1)) :=
    (col4 _).trans (congrArg column0 (W8_args m ρ c main_arg1 (by decide +kernel)))
  refine carry.trans ((fold4 _).trans ?_)
  rw [show W10 m ρ c (Proc.devRef .tc main_v18) = _ from pad4 _ (zero4 _), e1]
  unfold padded
  with_reducible rfl
/-- Window 5 of the first kernel: its column, padded. -/
theorem given5 (c : Dev nD) : W19 m ρ c (Proc.devRef .tc main_v23) = padded (column1 (m ((c : Thread nD τ).loc main_arg1))) := by
  have carry : W19 m ρ c (Proc.devRef .tc main_v23) = W13 m ρ c (Proc.devRef .tc main_v23) := by
    rw [W19_of m ρ c main_v23 (by decide +kernel), W18_of m ρ c main_v23 (by decide +kernel), W17_of m ρ c main_v23 (by decide +kernel), W16_of m ρ c main_v23 (by decide +kernel), W15_of m ρ c main_v23 (by decide +kernel), W14_of m ρ c main_v23 (by decide +kernel)]
  have e1 : W11 m ρ c (Proc.devRef .tc main_v21) = column1 (m ((c : Thread nD τ).loc main_arg1)) :=
    (col5 _).trans (congrArg column1 (W10_args m ρ c main_arg1 (by decide +kernel)))
  refine carry.trans ((fold5 _).trans ?_)
  rw [show W12 m ρ c (Proc.devRef .tc main_v22) = _ from pad5 _ (zero5 _), e1]
  unfold padded
  with_reducible rfl
/-- Window 6 of the first kernel: its column, padded. -/
theorem given6 (c : Dev nD) : W19 m ρ c (Proc.devRef .tc main_v27) = padded (column2 (m ((c : Thread nD τ).loc main_arg1))) := by
  have carry : W19 m ρ c (Proc.devRef .tc main_v27) = W15 m ρ c (Proc.devRef .tc main_v27) := by
    rw [W19_of m ρ c main_v27 (by decide +kernel), W18_of m ρ c main_v27 (by decide +kernel), W17_of m ρ c main_v27 (by decide +kernel), W16_of m ρ c main_v27 (by decide +kernel)]
  have e1 : W13 m ρ c (Proc.devRef .tc main_v25) = column2 (m ((c : Thread nD τ).loc main_arg1)) :=
    (col6 _).trans (congrArg column2 (W12_args m ρ c main_arg1 (by decide +kernel)))
  refine carry.trans ((fold6 _).trans ?_)
  rw [show W14 m ρ c (Proc.devRef .tc main_v26) = _ from pad6 _ (zero6 _), e1]
  unfold padded
  with_reducible rfl
/-- Window 7 of the first kernel: its column, padded. -/
theorem given7 (c : Dev nD) : W19 m ρ c (Proc.devRef .tc main_v31) = padded (column3 (m ((c : Thread nD τ).loc main_arg1))) := by
  have carry : W19 m ρ c (Proc.devRef .tc main_v31) = W17 m ρ c (Proc.devRef .tc main_v31) := by
    rw [W19_of m ρ c main_v31 (by decide +kernel), W18_of m ρ c main_v31 (by decide +kernel)]
  have e1 : W15 m ρ c (Proc.devRef .tc main_v29) = column3 (m ((c : Thread nD τ).loc main_arg1)) :=
    (col7 _).trans (congrArg column3 (W14_args m ρ c main_arg1 (by decide +kernel)))
  refine carry.trans ((fold7 _).trans ?_)
  rw [show W16 m ρ c (Proc.devRef .tc main_v30) = _ from pad7 _ (zero7 _), e1]
  unfold padded
  with_reducible rfl
/-- Window 8 of the first kernel: its column, padded. -/
theorem given8 (c : Dev nD) : W19 m ρ c (Proc.devRef .tc main_v33) = padded ((m ((c : Thread nD τ).loc main_arg2))) := by
  have carry : W19 m ρ c (Proc.devRef .tc main_v33) = W19 m ρ c (Proc.devRef .tc main_v33) := by
    rfl
  have e1 : W17 m ρ c (Proc.devRef .tc main_arg2) = (m ((c : Thread nD τ).loc main_arg2)) := W17_args m ρ c main_arg2 (by decide +kernel)
  refine carry.trans ((fold8 _).trans ?_)
  rw [show W18 m ρ c (Proc.devRef .tc main_v32) = _ from pad8 _ (zero8 _), e1]
  unfold padded
  with_reducible rfl

end

/-! ### The terms read at an entry -/

theorem padded_column0 (x : FVec Ideal S20000x4 .f32) (i : Fin 20000) : padded (column0 x) (ix2 ⟨(i : ℕ) / 128, by omega⟩ ⟨(i : ℕ) % 128, by omega⟩) = x (ix2 i 0) := by
  have h : (i : ℕ) / 128 * 128 + (i : ℕ) % 128 = i := by omega
  unfold padded column0
  pointwise
  simp only [h]
  simp
theorem padded_column1 (x : FVec Ideal S20000x4 .f32) (i : Fin 20000) : padded (column1 x) (ix2 ⟨(i : ℕ) / 128, by omega⟩ ⟨(i : ℕ) % 128, by omega⟩) = x (ix2 i 1) := by
  have h : (i : ℕ) / 128 * 128 + (i : ℕ) % 128 = i := by omega
  unfold padded column1
  pointwise
  simp only [h]
  simp
theorem padded_column2 (x : FVec Ideal S20000x4 .f32) (i : Fin 20000) : padded (column2 x) (ix2 ⟨(i : ℕ) / 128, by omega⟩ ⟨(i : ℕ) % 128, by omega⟩) = x (ix2 i 2) := by
  have h : (i : ℕ) / 128 * 128 + (i : ℕ) % 128 = i := by omega
  unfold padded column2
  pointwise
  simp only [h]
  simp
theorem padded_column3 (x : FVec Ideal S20000x4 .f32) (i : Fin 20000) : padded (column3 x) (ix2 ⟨(i : ℕ) / 128, by omega⟩ ⟨(i : ℕ) % 128, by omega⟩) = x (ix2 i 3) := by
  have h : (i : ℕ) / 128 * 128 + (i : ℕ) % 128 = i := by omega
  unfold padded column3
  pointwise
  simp only [h]
  simp
theorem padded_at (x : FVec Ideal S20000 .f32) (i : Fin 20000) : padded x (ix2 ⟨(i : ℕ) / 128, by omega⟩ ⟨(i : ℕ) % 128, by omega⟩) = x (ix1 i) := by
  have h : (i : ℕ) / 128 * 128 + (i : ℕ) % 128 = i := by omega
  unfold padded
  pointwise
  simp only [h]
  simp
theorem flat_at (x : FVec Ideal S160x128 .f32) (i : Fin 20000) : flat x (ix1 i) = x (ix2 ⟨(i : ℕ) / 128, by omega⟩ ⟨(i : ℕ) % 128, by omega⟩) := by
  unfold flat
  pointwise
theorem stack_at (a b c d : FVec Ideal S20000 .f32) (i : Fin 20000) (k : Fin 4) : stack (lane a) (lane b) (lane c) (lane d) (ix2 i k) = ![a (ix1 i), b (ix1 i), c (ix1 i), d (ix1 i)] k := by
  unfold stack lane
  pointwise
  fin_cases k <;> simp

variable (m : (ℓ : Loc nD τ sig) → Buf (Elt Ideal) ℓ) (ρ : Dev nD → PrngReg)

theorem left0 (c : Dev nD) (i : Fin 20000) : flat (F := Ideal) (W20 m ρ c (Proc.devRef .tc main_v34_0)) (ix1 i) = edge0 (m ((c : Thread nD τ).loc main_arg0)) (m ((c : Thread nD τ).loc main_arg1)) i := by
  rw [flat_at, array0_9, out0_9_at]
  rw [given0, given2, given4, given6, padded_column0, padded_column2, padded_column0, padded_column2]
  rfl
theorem left1 (c : Dev nD) (i : Fin 20000) : flat (F := Ideal) (W20 m ρ c (Proc.devRef .tc main_v34_1)) (ix1 i) = edge1 (m ((c : Thread nD τ).loc main_arg0)) (m ((c : Thread nD τ).loc main_arg1)) i := by
  rw [flat_at, array0_10, out0_10_at]
  rw [given1, given3, given5, given7, padded_column1, padded_column3, padded_column1, padded_column3]
  rfl
theorem left2 (c : Dev nD) (i : Fin 20000) : flat (F := Ideal) (W20 m ρ c (Proc.devRef .tc main_v34_2)) (ix1 i) = edge2 (m ((c : Thread nD τ).loc main_arg0)) (m ((c : Thread nD τ).loc main_arg1)) i := by
  rw [flat_at, array0_11, out0_11_at]
  rw [given0, given2, given4, given6, padded_column0, padded_column2, padded_column0, padded_column2]
  rfl
theorem left3 (c : Dev nD) (i : Fin 20000) : flat (F := Ideal) (W20 m ρ c (Proc.devRef .tc main_v34_3)) (ix1 i) = edge3 (m ((c : Thread nD τ).loc main_arg0)) (m ((c : Thread nD τ).loc main_arg1)) i := by
  rw [flat_at, array0_12, out0_12_at]
  rw [given1, given3, given5, given7, padded_column1, padded_column3, padded_column1, padded_column3]
  rfl
theorem left4 (c : Dev nD) (i : Fin 20000) : flat (F := Ideal) (W20 m ρ c (Proc.devRef .tc main_v34_4)) (ix1 i) = scores (m ((c : Thread nD τ).loc main_arg0)) (m ((c : Thread nD τ).loc main_arg1)) (m ((c : Thread nD τ).loc main_arg2)) (ix1 i) := by
  rw [flat_at, array0_13, out0_13_at]
  rw [given0, given1, given2, given3, given4, given5, given6, given7, given8]
  rw [padded_column0, padded_column1, padded_column2, padded_column3, padded_column0, padded_column1, padded_column2, padded_column3, padded_at]
  rfl

/-- The boxes the first kernel leaves. -/
theorem table_eq (c : Dev nD) : table (F := Ideal) (W20 m ρ c) = boxes (m ((c : Thread nD τ).loc main_arg0)) (m ((c : Thread nD τ).loc main_arg1)) := by
  funext x
  obtain ⟨i, k, rfl⟩ : ∃ (i : Fin 20000) (k : Fin 4), x = ix2 i k := ⟨x 0, x 1, eq_ix2 x⟩
  unfold table
  refine (stack_at _ _ _ _ i k).trans ?_
  rw [left0, left1, left2, left3]
  rfl

/-- The scores the first kernel leaves. -/
theorem flat_scores (c : Dev nD) : flat (F := Ideal) (W20 m ρ c (Proc.devRef .tc main_v34_4)) = scores (m ((c : Thread nD τ).loc main_arg0)) (m ((c : Thread nD τ).loc main_arg1)) (m ((c : Thread nD τ).loc main_arg2)) := by
  funext x
  obtain ⟨i, rfl⟩ : ∃ (i : Fin 20000), x = ix1 i := ⟨x 0, eq_ix1 x⟩
  exact left4 m ρ c i

end Cert.Proof.KernelIdeal
-- ==== Proof.Greedy.lean ====
/- Greedy suppression over the boxes in order: which boxes survive once the first `k` of them have been processed. -/
module

public import Idealize.ShloMosaic.Lib.Pointwise

@[expose] public section

namespace Cert.Proof

/-- Whether box `j` still stands once the boxes before `k` have been processed: box `k`, if it stands, strikes every later box
    that it hits. -/
def greedy (hit : ℕ → ℕ → Prop) : ℕ → ℕ → Prop
  | 0, _ => True
  | k + 1, j => greedy hit k j ∧ ¬ (hit k j ∧ greedy hit k k ∧ k < j)

variable {hit hit' : ℕ → ℕ → Prop}

/-- One more box processed. -/
theorem greedy_succ (k j : ℕ) : greedy hit (k + 1) j ↔ greedy hit k j ∧ ¬ (hit k j ∧ greedy hit k k ∧ k < j) := Iff.rfl

/-- A box's fate is settled once the boxes before it have been processed. -/
theorem greedy_settled {j k : ℕ} (h : j ≤ k) : greedy hit k j ↔ greedy hit j j := by
  induction k, h using Nat.le_induction with
  | base => exact Iff.rfl
  | succ k hjk ih =>
    rw [greedy_succ, ih]
    exact ⟨fun h => h.1, fun h => ⟨h, fun h' => by omega⟩⟩

/-- `n` boxes processed at once: a box stands after them if it stood before them and no standing earlier one of them hits it. -/
theorem greedy_block (s n j : ℕ) :
    greedy hit (s + n) j ↔ greedy hit s j ∧ ∀ l < n, ¬ (hit (s + l) j ∧ greedy hit (s + l) (s + l) ∧ s + l < j) := by
  induction n with
  | zero => exact ⟨fun h => ⟨h, fun l hl => absurd hl (Nat.not_lt_zero l)⟩, fun h => h.1⟩
  | succ n ih =>
    rw [← Nat.add_assoc, greedy_succ, ih]
    constructor
    · rintro ⟨⟨h1, h2⟩, h3⟩
      refine ⟨h1, fun l hl => ?_⟩
      rcases Nat.lt_succ_iff_lt_or_eq.mp hl with h | rfl
      · exact h2 l h
      · exact h3
    · rintro ⟨h1, h2⟩
      exact ⟨⟨h1, fun l hl => h2 l (Nat.lt_succ_of_lt hl)⟩, h2 n (Nat.lt_succ_self n)⟩

/-- A tile of `n` boxes from `s` and a box past the tile: it stands after the tile if it stood before and no box of the tile
    that stands after the tile hits it. -/
theorem greedy_tile (s n j : ℕ) (hj : s + n ≤ j) :
    greedy hit (s + n) j ↔ greedy hit s j ∧ ¬ ∃ l, l < n ∧ greedy hit (s + n) (s + l) ∧ hit (s + l) j := by
  rw [greedy_block]
  refine and_congr_right fun _ => ?_
  constructor
  · rintro h ⟨l, hl, hg, hh⟩
    exact h l hl ⟨hh, (greedy_settled (by omega)).mp hg, by omega⟩
  · rintro h l hl ⟨hh, hg, hlt⟩
    exact h ⟨l, hl, (greedy_settled (by omega)).mpr hg, hh⟩

/-- A box's fate reads the hits of the boxes below a bound only. -/
theorem greedy_congr {n : ℕ} (h : ∀ i j, i < n → j < n → (hit i j ↔ hit' i j)) (k j : ℕ) (hj : j < n) :
    greedy hit k j ↔ greedy hit' k j := by
  induction k generalizing j with
  | zero => exact Iff.rfl
  | succ k ih =>
    rw [greedy_succ, greedy_succ, ih j hj]
    refine and_congr_right fun _ => not_congr ?_
    constructor
    · rintro ⟨h1, h2, h3⟩; exact ⟨(h k j (h3.trans hj) hj).mp h1, (ih k (h3.trans hj)).mp h2, h3⟩
    · rintro ⟨h1, h2, h3⟩; exact ⟨(h k j (h3.trans hj) hj).mpr h1, (ih k (h3.trans hj)).mpr h2, h3⟩

end Cert.Proof
-- ==== Proof.Overlap.lean ====
/- The overlap of two boxes over the extended reals, and truth values as the numbers 0 and 1. -/
module

public import proofs.«01_k».proof.Proof.Greedy
public import Idealize.ShloMosaic.Lib.Pointwise

@[expose] public section

noncomputable section

namespace Cert.Proof

open Idealize.ShloMosaic

/-- The common part of two boxes (left, top, right, bottom). -/
def inter (a b : Fin 4 → EReal) : EReal :=
  max 0 (min (a 2) (b 2) - max (a 0) (b 0)) * max 0 (min (a 3) (b 3) - max (a 1) (b 1))

/-- The area of a box. -/
def area (a : Fin 4 → EReal) : EReal := (a 2 - a 0) * (a 3 - a 1)

/-- The common part over the union, the union bounded away from nought. -/
def iou (a b : Fin 4 → EReal) : EReal :=
  Ideal.div (inter a b) (max (area a + area b - inter a b) (Ideal.ofBits .f32 814313567#32))

/-- Two boxes overlap when their common part over their union passes the threshold. -/
def overlaps (a b : Fin 4 → EReal) : Prop := Ideal.ofBits .f32 1060320051#32 < iou a b

open Classical in
/-- A truth value as a number. -/
def ind (p : Prop) : EReal := if p then 1 else 0

/-- A truth is one. -/
theorem ind_true {p : Prop} (h : p) : ind p = 1 := if_pos h
/-- A falsehood is nought. -/
theorem ind_false {p : Prop} (h : ¬p) : ind p = 0 := if_neg h

/-- The product of two truth values is their conjunction's. -/
theorem ind_mul (p q : Prop) : ind p * ind q = ind (p ∧ q) := by
  by_cases hp : p <;> by_cases hq : q <;> simp [ind, hp, hq]

/-- One less a truth value is its negation's. -/
theorem one_sub_ind (p : Prop) : 1 - ind p = ind (¬p) := by
  have h : (1 : EReal) - 1 = 0 := by
    rw [show (1 : EReal) = ((1 : ℝ) : EReal) from rfl, ← EReal.coe_sub, sub_self]; rfl
  by_cases hp : p <;> simp [ind, hp, h]

/-- Neither is negative. -/
theorem ind_nonneg (p : Prop) : 0 ≤ ind p := by
  by_cases hp : p <;> simp [ind, hp]

/-- Equivalent truth values have the same number. -/
theorem ind_congr {p q : Prop} (h : p ↔ q) : ind p = ind q := by rw [propext h]

/-- A truth value is positive when it is true. -/
theorem ind_pos (p : Prop) : 0 < ind p ↔ p := by
  by_cases hp : p <;> simp [ind, hp]

/-- A sum against one index's truth value picks that index. -/
theorem sum_ind_mul {n : ℕ} (i : Fin n) (P : Fin n → Prop) (hP : ∀ x, P x ↔ x = i) (f : Fin n → EReal) : ∑ x, ind (P x) * f x = f i := by
  rw [Finset.sum_eq_single i]
  · rw [ind_true ((hP i).2 rfl), one_mul]
  · intro x _ hx; rw [ind_false (fun h => hx ((hP x).1 h)), zero_mul]
  · intro h; exact absurd (Finset.mem_univ i) h

/-- A sum of truth values is positive when one of them is true. -/
theorem sum_ind_pos {n : ℕ} (P : Fin n → Prop) : 0 < ∑ x, ind (P x) ↔ ∃ x, P x := by
  constructor
  · intro h
    by_contra hn
    rw [Finset.sum_eq_zero (fun x _ => ind_false fun hx => hn ⟨x, hx⟩)] at h
    exact lt_irrefl _ h
  · rintro ⟨x, hx⟩
    calc (0 : EReal) < ind (P x) := (ind_pos _).2 hx
      _ ≤ ∑ x, ind (P x) := Finset.single_le_sum (f := fun x => ind (P x)) (fun y _ => ind_nonneg _) (Finset.mem_univ x)

/-- A bit widened to a word and made a number is its truth value. -/
theorem sitofp_bit (p : Prop) [Decidable p] : (FloatOps.sitofp FTy.f32 (BitVec.setWidth 32 (BitVec.ofBool (decide p))) : Ideal .f32) = ind p := by
  show (((BitVec.setWidth 32 (BitVec.ofBool (decide p))).toInt : ℝ) : EReal) = ind p
  by_cases hp : p <;> simp [ind, hp]

/-- Folding over the first `n` numbers keeps what each step keeps. -/
theorem foldl_finRange_keeps {σ : Type} {n : ℕ} (g : σ → Fin n → σ) (Q : ℕ → σ → Prop) (s : σ) (h0 : Q 0 s) (hs : ∀ (k : Fin n) a, Q k a → Q (k + 1) (g a k)) :
    Q n ((List.finRange n).foldl g s) := by
  induction n generalizing s Q with
  | zero => simpa using h0
  | succ n ih =>
    rw [List.finRange_succ, List.foldl_cons, List.foldl_map]
    exact ih (fun a k => g a k.succ) (fun k a => Q (k + 1) a) (g s 0) (hs 0 s h0) (fun k a h => hs k.succ a h)

end Cert.Proof
-- ==== Proof.NmsValue.lean ====
/- What the suppression kernel's keep row holds over the extended reals: before tile `t`, one at the boxes that greedy
   suppression by the boxes before `128 t` leaves standing, nought elsewhere. -/
module

public import proofs.«01_k».proof.Proof.NmsLoopKernelIdeal
public import proofs.«01_k».proof.Proof.Overlap
public import Idealize.ShloMosaic.Lib.WordArith.Masks
public import Idealize.ShloMosaic.Lib.WordCmp
public import Idealize.ShloMosaic.Lib.Pipeline.ValueKit.Geometry

@[expose] public section

set_option maxRecDepth 16384

noncomputable section

namespace Cert.Proof.KernelIdeal

open Cert.KernelIdeal Cert.KernelIdeal.Gen Idealize.ShloMosaic Idealize.ShloMosaic.TcCoe

/-- The kernel's eight coordinate arrays hold the boxes `B`, four as columns and four as rows. -/
structure HoldBoxes (B : ℕ → Fin 4 → EReal) (x0 x1 x2 x3 : Vec Ideal S2048x1 .f32) (x4 x5 x6 x7 : Vec Ideal S1x2048 .f32) : Prop where
  c0 : ∀ i : Fin 2048, x0 (ix2 i 0) = B i 0
  c1 : ∀ i : Fin 2048, x1 (ix2 i 0) = B i 1
  c2 : ∀ i : Fin 2048, x2 (ix2 i 0) = B i 2
  c3 : ∀ i : Fin 2048, x3 (ix2 i 0) = B i 3
  r0 : ∀ i : Fin 2048, x4 (ix2 0 i) = B i 0
  r1 : ∀ i : Fin 2048, x5 (ix2 0 i) = B i 1
  r2 : ∀ i : Fin 2048, x6 (ix2 0 i) = B i 2
  r3 : ∀ i : Fin 2048, x7 (ix2 0 i) = B i 3

/-- Box `i` of `B` overlaps box `j`. -/
abbrev hit (B : ℕ → Fin 4 → EReal) (i j : ℕ) : Prop := overlaps (B i) (B j)

theorem trips1 : k1_t1_loop.trips = 16 := by decide
theorem trips2 : k1_t2_loop.trips = 128 := by decide

/-- The flag a tile's box `i` holds against box `j`. -/
theorem pay13_apply (x1 x2 x3 x4 : FVec Ideal S1x2048 .f32) (t1 t2 t3 t4 : Vec Ideal S128x1 .f32) (i : Fin 128) (j : Fin 2048) (a b : Fin 4 → EReal)
    (ha : a = ![t1 (ix2 i 0), t2 (ix2 i 0), t3 (ix2 i 0), t4 (ix2 i 0)]) (hb : b = ![x1 (ix2 0 j), x2 (ix2 0 j), x3 (ix2 0 j), x4 (ix2 0 j)]) :
    k1_pay13 (F := Ideal) (k1_pay1 x1) (k1_pay2 x2) (k1_pay3 x3) (k1_pay4 x4) (k1_pay5 x1 x2 x3 x4) t1 t2 t3 t4 (ix2 i j) = ind (overlaps a b) := by
  subst ha hb
  unfold_payloads
  pointwise
  exact sitofp_bit _

/-- One step of a tile: box `j` of the tile stays unless the standing box `k2` overlaps it from before it. -/
theorem pay16_apply (x1 x2 x3 x4 : Vec Ideal S1x128 .f32) (t1 t2 t3 t4 : Vec Ideal S128x1 .f32) (k2 : Fin k1_t2_loop.trips) (k2' : Fin 128) (hk : k2'.val = k2.val) (acc : FVec Ideal S1x128 .f32) (j : Fin 128)
    (a b : Fin 4 → EReal)
    (ha : a = ![t1 (ix2 k2' 0), t2 (ix2 k2' 0), t3 (ix2 k2' 0), t4 (ix2 k2' 0)]) (hb : b = ![x1 (ix2 0 j), x2 (ix2 0 j), x3 (ix2 0 j), x4 (ix2 0 j)]) :
    k1_pay16 (F := Ideal) lanes (k1_pay8 t1) (k1_pay9 t2) (k1_pay10 t3) (k1_pay11 t4) (k1_pay12 t1 t2 t3 t4) (k1_pay14 x1) x2 x3 x4 k2 acc (ix2 0 j)
      = acc (ix2 0 j) * (1 - ind (overlaps a b) * acc (ix2 0 k2') * ind (k2.val < j.val)) := by
  have hlt : k2.val < 128 := trips2 ▸ k2.isLt
  have hone : ∀ x : Fin 128, (FloatOps.sitofp FTy.f32 (BitVec.setWidth 32 (IntOp.cmpi .eq (BitVec.ofNat 32 x.val) (Scf.iv 0#32 1#32 k2))) : Ideal .f32) = ind (x = k2') := by
    intro x
    rw [WordCmp.cmpi_eq_eq, sitofp_bit]
    refine ind_congr ?_
    rw [← BitVec.toNat_inj, WordArith.toNat_iv_zero_one _ (by omega), BitVec.toNat_ofNat, Nat.mod_eq_of_lt (by omega), ← hk, Fin.ext_iff]
  have hafter : (FloatOps.sitofp FTy.f32 (BitVec.setWidth 32 (IntOp.cmpi .sgt (BitVec.ofNat 32 j.val) (Scf.iv 0#32 1#32 k2))) : Ideal .f32) = ind (k2.val < j.val) := by
    rw [WordCmp.cmpi_sgt_eq, sitofp_bit]
    refine ind_congr ?_
    have hj := j.isLt
    rw [BitVec.toInt_eq_toNat_of_lt (by rw [WordArith.toNat_iv_zero_one _ (by omega)]; omega), WordArith.toNat_iv_zero_one _ (by omega),
      BitVec.toInt_eq_toNat_of_lt (by rw [BitVec.toNat_ofNat, Nat.mod_eq_of_lt (by omega)]; omega), BitVec.toNat_ofNat, Nat.mod_eq_of_lt (by omega)]
    omega
  subst ha hb
  unfold_payloads
  pointwise
  rw [hafter]
  simp only [hone, sitofp_bit]
  rw [sum_ind_mul k2' _ (fun _ => Iff.rfl) (fun x => ind _)]
  simp only [sum_ind_mul k2' _ (fun _ => Iff.rfl) (fun x => acc (ix2 0 x)), Finset.univ_unique, Finset.sum_singleton]
  rfl

/-- The keep row after a tile: a box past the tile goes if a standing box of the tile hits it. -/
theorem pay7_apply (s : ℕ) (hs : s + 128 ≤ 2048) (w : BitVec 32) (hw : w = BitVec.ofNat 32 s) (m : FVec Ideal S128x2048 .f32) (kt : FVec Ideal S1x128 .f32) (b : FVec Ideal S1x2048 .f32) (j : Fin 2048)
    (P H : Fin 128 → Prop) (hP : ∀ i, kt (ix2 0 i) = ind (P i)) (hH : ∀ i, m (ix2 i j) = ind (H i)) :
    k1_pay7 (F := Ideal) w m kt b (ix2 0 j) = b (ix2 0 j) * ind (¬((∃ i, P i ∧ H i) ∧ s + 128 ≤ j.val)) := by
  have hge : (FloatOps.sitofp FTy.f32 (BitVec.setWidth 32 (IntOp.cmpi .sge (BitVec.ofNat 32 j.val) (Scalar.addi w 128#32))) : Ideal .f32) = ind (s + 128 ≤ j.val) := by
    rw [WordCmp.cmpi_sge_eq, sitofp_bit]
    refine ind_congr ?_
    have hj := j.isLt
    have e : Scalar.addi w 128#32 = BitVec.ofNat 32 (s + 128) := by rw [hw]; show BitVec.ofNat 32 s + 128#32 = _; rw [BitVec.ofNat_add]
    rw [e, BitVec.toInt_eq_toNat_of_lt (by rw [BitVec.toNat_ofNat, Nat.mod_eq_of_lt (by omega)]; omega), BitVec.toInt_eq_toNat_of_lt (by rw [BitVec.toNat_ofNat, Nat.mod_eq_of_lt (by omega)]; omega),
      BitVec.toNat_ofNat, Nat.mod_eq_of_lt (by omega), BitVec.toNat_ofNat, Nat.mod_eq_of_lt (by omega)]
    omega
  unfold_payloads
  pointwise
  rw [hge]
  simp only [sitofp_bit, hP, hH, ind_mul, one_sub_ind]
  refine congrArg _ (ind_congr (not_congr (and_congr_left' ?_)))
  exact sum_ind_pos fun i => P i ∧ H i

/-- The offset of tile `k`. -/
theorem toNat_tile (k : Fin k1_t1_loop.trips) : Scalar.muli (Scf.iv 0#32 1#32 k) 128#32 = BitVec.ofNat 32 (128 * k.val) := by
  have hk : k.val < 16 := trips1 ▸ k.isLt
  rw [← BitVec.toNat_inj]
  show (Scf.iv 0#32 1#32 k.val * 128#32).toNat = _
  rw [BitVec.toNat_mul, WordArith.toNat_iv_zero_one _ (by omega), BitVec.toNat_ofNat, BitVec.toNat_ofNat]
  congr 1
  omega

theorem toNat_off (k : Fin k1_t1_loop.trips) : (Scalar.indexCast (Scalar.muli (Scf.iv 0#32 1#32 k.val) 128#32)).toNat = 128 * k.val := by
  have hk : k.val < 16 := trips1 ▸ k.isLt
  show (Scalar.muli (Scf.iv 0#32 1#32 k.val) 128#32).toNat = _
  rw [toNat_tile, BitVec.toNat_ofNat, Nat.mod_eq_of_lt (by omega)]

theorem off1_eq (k : Fin k1_t1_loop.trips) : k1_off1 k = ![128 * k.val, 0] := by
  rw [← toNat_off k]; rfl

theorem off2_eq (k : Fin k1_t1_loop.trips) : k1_off2 k = ![0, 128 * k.val] := by
  rw [← toNat_off k]; rfl

/-- Entry `i` of tile `k` of a column. -/
theorem colTile_apply (x : Vec Ideal S2048x1 .f32) (k : Fin k1_t1_loop.trips) (i : Fin 128) (h : 128 * k.val + i.val < 2048) : colTile x k (ix2 i 0) = x (ix2 ⟨128 * k.val + i.val, h⟩ 0) := by
  refine congrArg x (funext fun a => Fin.ext ?_)
  have e := off1_eq k
  refine (ValueKit.rect_emb_unit_val (s := S2048x1) (k1_off1 k) S128x1.size (k1_off1_inb k) (ix2 i 0) a).trans ((congrArg (· + _) (congrFun e a)).trans ?_)
  fin_cases a
  · rfl
  · rfl

/-- Entry `i` of tile `k` of a row. -/
theorem rowTile_apply (x : Vec Ideal S1x2048 .f32) (k : Fin k1_t1_loop.trips) (i : Fin 128) (h : 128 * k.val + i.val < 2048) : rowTile x k (ix2 0 i) = x (ix2 0 ⟨128 * k.val + i.val, h⟩) := by
  refine congrArg x (funext fun a => Fin.ext ?_)
  have e := off2_eq k
  refine (ValueKit.rect_emb_unit_val (s := S1x2048) (k1_off2 k) S1x128.size (k1_off2_inb k) (ix2 0 i) a).trans ((congrArg (· + _) (congrFun e a)).trans ?_)
  fin_cases a
  · rfl
  · rfl

/-- A row with tile `k` put into it, at a box of the tile, -/
theorem put_inside (x : Vec Ideal S1x2048 .f32) (k : Fin k1_t1_loop.trips) (w : Vec Ideal S1x128 .f32) (i : Fin 128) (j : Fin 2048) (hj : j.val = 128 * k.val + i.val) :
    VecWindow.put x (k1_off2 k) S1x128.size w (ix2 0 j) = w (ix2 0 i) := by
  have e := off2_eq k
  have hin : ∀ a, k1_off2 k a ≤ ((ix2 0 j : S1x2048.Idx) a).val ∧ ((ix2 0 j : S1x2048.Idx) a).val < k1_off2 k a + S1x128.size a := by
    intro a
    rw [e]
    have hi := i.isLt
    fin_cases a
    · exact ⟨Nat.le_refl _, Nat.zero_lt_one⟩
    · show 128 * k.val ≤ j.val ∧ j.val < 128 * k.val + 128
      omega
  unfold VecWindow.put
  rw [dif_pos hin]
  refine congrArg w (funext fun a => Fin.ext ?_)
  show ((ix2 0 j : S1x2048.Idx) a).val - k1_off2 k a = _
  rw [e]
  fin_cases a
  · rfl
  · show j.val - 128 * k.val = i.val
    omega

/-- and at a box outside it. -/
theorem put_outside (x : Vec Ideal S1x2048 .f32) (k : Fin k1_t1_loop.trips) (w : Vec Ideal S1x128 .f32) (j : Fin 2048) (hj : j.val < 128 * k.val ∨ 128 * k.val + 128 ≤ j.val) :
    VecWindow.put x (k1_off2 k) S1x128.size w (ix2 0 j) = x (ix2 0 j) := by
  have e := off2_eq k
  unfold VecWindow.put
  rw [dif_neg]
  intro hin
  have h1 := hin 1
  rw [e] at h1
  have : 128 * k.val ≤ j.val ∧ j.val < 128 * k.val + 128 := h1
  omega

section Values

variable {B : ℕ → Fin 4 → EReal} {x0 x1 x2 x3 : Vec Ideal S2048x1 .f32} {x4 x5 x6 x7 : Vec Ideal S1x2048 .f32}

/-- The tile's flags after its 128 steps, over a keep row that knows the boxes before the tile. -/
theorem tileKeep_apply (hB : HoldBoxes B x0 x1 x2 x3 x4 x5 x6 x7) (k : Fin k1_t1_loop.trips) (b : Vec Ideal S1x2048 .f32)
    (hb : ∀ j : Fin 2048, b (ix2 0 j) = ind (greedy (hit B) (128 * k.val) j)) (l : Fin 128) :
    tileKeep x0 x1 x2 x3 x4 x5 x6 x7 k b (ix2 0 l) = ind (greedy (hit B) (128 * k.val + 128) (128 * k.val + l.val)) := by
  have hk : k.val < 16 := trips1 ▸ k.isLt
  have key : ∀ l : Fin 128, tileKeep x0 x1 x2 x3 x4 x5 x6 x7 k b (ix2 0 l) = ind (greedy (hit B) (128 * k.val + k1_t2_loop.trips) (128 * k.val + l.val)) := by
    unfold tileKeep
    rw [Scf.fold_eq]
    refine foldl_finRange_keeps _ (fun n (acc : FVec Ideal S1x128 .f32) => ∀ l : Fin 128, acc (ix2 0 l) = ind (greedy (hit B) (128 * k.val + n) (128 * k.val + l.val))) _ ?_ ?_
    · intro l
      have e : k1_pay15 (rowTile b k) (ix2 0 l) = rowTile b k (ix2 0 l) := by
        unfold_payloads
        pointwise
      rw [e, rowTile_apply b k l (by omega), hb]
      rfl
    · intro k2 acc hacc l
      have hk2 : k2.val < 128 := trips2 ▸ k2.isLt
      show k1_pay16 (F := Ideal) lanes _ _ _ _ _ _ _ _ _ k2 acc (ix2 0 l) = _
      rw [pay16_apply _ _ _ _ _ _ _ _ k2 ⟨k2.val, hk2⟩ rfl acc l (B (128 * k.val + k2.val)) (B (128 * k.val + l.val)) ?_ ?_, hacc, hacc, ind_mul, ind_mul, one_sub_ind, ind_mul, ← Nat.add_assoc, greedy_succ]
      · refine ind_congr (and_congr_right fun _ => not_congr ?_)
        rw [and_assoc]
        refine and_congr_right fun _ => and_congr_right fun _ => ?_
        omega
      · funext a
        rw [colTile_apply _ _ _ (by show _ + k2.val < _; omega), colTile_apply _ _ _ (by show _ + k2.val < _; omega), colTile_apply _ _ _ (by show _ + k2.val < _; omega), colTile_apply _ _ _ (by show _ + k2.val < _; omega), hB.c0, hB.c1, hB.c2, hB.c3]
        fin_cases a <;> rfl
      · funext a
        rw [rowTile_apply _ _ _ (by omega), rowTile_apply _ _ _ (by omega), rowTile_apply _ _ _ (by omega), rowTile_apply _ _ _ (by omega), hB.r0, hB.r1, hB.r2, hB.r3]
        fin_cases a <;> rfl
  rw [key l, trips2]

/-- The tile's boxes against all boxes. -/
theorem tileHits_apply (hB : HoldBoxes B x0 x1 x2 x3 x4 x5 x6 x7) (k : Fin k1_t1_loop.trips) (i : Fin 128) (j : Fin 2048) :
    tileHits x0 x1 x2 x3 x4 x5 x6 x7 k (ix2 i j) = ind (hit B (128 * k.val + i.val) j) := by
  have hk : k.val < 16 := trips1 ▸ k.isLt
  unfold tileHits
  refine pay13_apply _ _ _ _ _ _ _ _ i j _ _ ?_ ?_
  · funext a
    rw [colTile_apply _ _ _ (by omega), colTile_apply _ _ _ (by omega), colTile_apply _ _ _ (by omega), colTile_apply _ _ _ (by omega), hB.c0, hB.c1, hB.c2, hB.c3]
    fin_cases a <;> rfl
  · funext a
    rw [hB.r0, hB.r1, hB.r2, hB.r3]
    fin_cases a <;> rfl

/-- One trip takes the keep row from the boxes before the tile to the boxes before the next. -/
theorem tripKeep_apply (hB : HoldBoxes B x0 x1 x2 x3 x4 x5 x6 x7) (k : Fin k1_t1_loop.trips) (b : Vec Ideal S1x2048 .f32)
    (hb : ∀ j : Fin 2048, b (ix2 0 j) = ind (greedy (hit B) (128 * k.val) j)) (j : Fin 2048) :
    tripKeep x0 x1 x2 x3 x4 x5 x6 x7 k b (ix2 0 j) = ind (greedy (hit B) (128 * (k.val + 1)) j) := by
  have hk : k.val < 16 := trips1 ▸ k.isLt
  unfold tripKeep
  rw [pay7_apply (128 * k.val) (by omega) _ (toNat_tile k) _ _ _ j _ _ (tileKeep_apply hB k b hb) (fun i => tileHits_apply hB k i j), Nat.mul_add, Nat.mul_one]
  by_cases hin : 128 * k.val ≤ j.val ∧ j.val < 128 * k.val + 128
  · rw [put_inside b k _ ⟨j.val - 128 * k.val, by omega⟩ j (by show _ = _ + (j.val - 128 * k.val); omega), tileKeep_apply hB k b hb, ind_mul]
    have e : 128 * k.val + (j.val - 128 * k.val) = j.val := by omega
    refine ind_congr ?_
    show greedy _ _ (128 * k.val + (j.val - 128 * k.val)) ∧ _ ↔ _
    rw [e]
    exact ⟨fun h => h.1, fun h => ⟨h, fun h' => by omega⟩⟩
  · rw [put_outside b k _ j (by omega), hb, ind_mul]
    refine ind_congr ?_
    by_cases hl : 128 * k.val + 128 ≤ j.val
    · rw [greedy_tile _ _ _ hl]
      refine and_congr_right fun _ => not_congr ⟨?_, ?_⟩
      · rintro ⟨⟨i, h1, h2⟩, -⟩
        exact ⟨i, i.isLt, h1, h2⟩
      · rintro ⟨i, hi, h1, h2⟩
        exact ⟨⟨⟨i, hi⟩, h1, h2⟩, hl⟩
    · rw [greedy_settled (k := 128 * k.val + 128) (j := j.val) (by omega), greedy_settled (k := 128 * k.val) (j := j.val) (by omega)]
      exact ⟨fun h => h.1, fun h => ⟨h, fun h' => hl h'.2⟩⟩

/-- The keep row after `t` trips. -/
theorem keepAt_apply (hB : HoldBoxes B x0 x1 x2 x3 x4 x5 x6 x7) (t : ℕ) (ht : t ≤ 16) (j : Fin 2048) :
    keepAt x0 x1 x2 x3 x4 x5 x6 x7 t (ix2 0 j) = ind (greedy (hit B) (128 * t) j) := by
  induction t generalizing j with
  | zero =>
    show k1_pay6 (F := Ideal) (ix2 0 j) = _
    rw [ind_true (by trivial)]
    unfold_payloads
    pointwise
  | succ t ih =>
    have hk : t < k1_t1_loop.trips := by rw [trips1]; omega
    rw [keepAt_succ x0 x1 x2 x3 x4 x5 x6 x7 ⟨t, hk⟩]
    exact tripKeep_apply hB ⟨t, hk⟩ _ (ih (by omega)) j

/-- The kernel's result: a box stands at the end when no earlier standing box overlaps it. -/
theorem keep_final (hB : HoldBoxes B x0 x1 x2 x3 x4 x5 x6 x7) (j : Fin 2048) :
    keepAt x0 x1 x2 x3 x4 x5 x6 x7 k1_t1_loop.trips (ix2 0 j) = ind (greedy (hit B) j j) := by
  rw [trips1, keepAt_apply hB 16 (Nat.le_refl _) j, greedy_settled (k := 128 * 16) (j := j.val) (by omega)]

end Values

end Cert.Proof.KernelIdeal
-- ==== Proof.MidKernelIdeal.lean ====
/- The boxes the second kernel is given, and the keep row it leaves: the greedy choice among the chosen boxes (`KernelIdeal`). -/
module

public import proofs.«01_k».proof.Proof.EntryKernelIdeal
public import proofs.«01_k».proof.Proof.NmsValue

@[expose] public section

set_option maxRecDepth 16384

noncomputable section

namespace Cert.Proof.KernelIdeal

open Cert.KernelIdeal Cert.KernelIdeal.Gen Idealize.ShloMosaic Idealize.ShloMosaic.TcCoe StableHlo

variable {F : FTy → Type} [FloatOps F]

set_option maxHeartbeats 400000

theorem side0 (V : Valuation τ sig (Elt F)) : after hostOps1_2 V (Proc.devRef .tc main_v60) =
    shapeCast S2048x1 (shapeCast S2048 (extractStridedSlice S2048x1 ![0, 0] (V (Proc.devRef .tc main_v57)) slices_S2048x4_S2048x1_0_0) shapeCasts_S2048x1_S2048) shapeCasts_S2048_S2048x1 := by
  after_reads_simp
  rfl
theorem top0 (V : Valuation τ sig (Elt F)) : after hostOps1_2 V (Proc.devRef .tc main_v72) =
    shapeCast S1x2048 (shapeCast S2048 (extractStridedSlice S2048x1 ![0, 0] (V (Proc.devRef .tc main_v57)) slices_S2048x4_S2048x1_0_0) shapeCasts_S2048x1_S2048) shapeCasts_S2048_S1x2048 := by
  after_reads_simp
  rfl
theorem side0_at (x : FVec Ideal S2048x4 .f32) (i : Fin 2048) :
    shapeCast S2048x1 (shapeCast S2048 (extractStridedSlice S2048x1 ![0, 0] x slices_S2048x4_S2048x1_0_0) shapeCasts_S2048x1_S2048) shapeCasts_S2048_S2048x1 (ix2 i 0) = x (ix2 i 0) := by
  pointwise
theorem top0_at (x : FVec Ideal S2048x4 .f32) (i : Fin 2048) :
    shapeCast S1x2048 (shapeCast S2048 (extractStridedSlice S2048x1 ![0, 0] x slices_S2048x4_S2048x1_0_0) shapeCasts_S2048x1_S2048) shapeCasts_S2048_S1x2048 (ix2 0 i) = x (ix2 i 0) := by
  pointwise
theorem side1 (V : Valuation τ sig (Elt F)) : after hostOps1_2 V (Proc.devRef .tc main_v63) =
    shapeCast S2048x1 (shapeCast S2048 (extractStridedSlice S2048x1 ![0, 1] (V (Proc.devRef .tc main_v57)) slices_S2048x4_S2048x1_0_1) shapeCasts_S2048x1_S2048) shapeCasts_S2048_S2048x1 := by
  after_reads_simp
  rfl
theorem top1 (V : Valuation τ sig (Elt F)) : after hostOps1_2 V (Proc.devRef .tc main_v75) =
    shapeCast S1x2048 (shapeCast S2048 (extractStridedSlice S2048x1 ![0, 1] (V (Proc.devRef .tc main_v57)) slices_S2048x4_S2048x1_0_1) shapeCasts_S2048x1_S2048) shapeCasts_S2048_S1x2048 := by
  after_reads_simp
  rfl
theorem side1_at (x : FVec Ideal S2048x4 .f32) (i : Fin 2048) :
    shapeCast S2048x1 (shapeCast S2048 (extractStridedSlice S2048x1 ![0, 1] x slices_S2048x4_S2048x1_0_1) shapeCasts_S2048x1_S2048) shapeCasts_S2048_S2048x1 (ix2 i 0) = x (ix2 i 1) := by
  pointwise
theorem top1_at (x : FVec Ideal S2048x4 .f32) (i : Fin 2048) :
    shapeCast S1x2048 (shapeCast S2048 (extractStridedSlice S2048x1 ![0, 1] x slices_S2048x4_S2048x1_0_1) shapeCasts_S2048x1_S2048) shapeCasts_S2048_S1x2048 (ix2 0 i) = x (ix2 i 1) := by
  pointwise
theorem side2 (V : Valuation τ sig (Elt F)) : after hostOps1_2 V (Proc.devRef .tc main_v66) =
    shapeCast S2048x1 (shapeCast S2048 (extractStridedSlice S2048x1 ![0, 2] (V (Proc.devRef .tc main_v57)) slices_S2048x4_S2048x1_0_2) shapeCasts_S2048x1_S2048) shapeCasts_S2048_S2048x1 := by
  after_reads_simp
  rfl
theorem top2 (V : Valuation τ sig (Elt F)) : after hostOps1_2 V (Proc.devRef .tc main_v78) =
    shapeCast S1x2048 (shapeCast S2048 (extractStridedSlice S2048x1 ![0, 2] (V (Proc.devRef .tc main_v57)) slices_S2048x4_S2048x1_0_2) shapeCasts_S2048x1_S2048) shapeCasts_S2048_S1x2048 := by
  after_reads_simp
  rfl
theorem side2_at (x : FVec Ideal S2048x4 .f32) (i : Fin 2048) :
    shapeCast S2048x1 (shapeCast S2048 (extractStridedSlice S2048x1 ![0, 2] x slices_S2048x4_S2048x1_0_2) shapeCasts_S2048x1_S2048) shapeCasts_S2048_S2048x1 (ix2 i 0) = x (ix2 i 2) := by
  pointwise
theorem top2_at (x : FVec Ideal S2048x4 .f32) (i : Fin 2048) :
    shapeCast S1x2048 (shapeCast S2048 (extractStridedSlice S2048x1 ![0, 2] x slices_S2048x4_S2048x1_0_2) shapeCasts_S2048x1_S2048) shapeCasts_S2048_S1x2048 (ix2 0 i) = x (ix2 i 2) := by
  pointwise
theorem side3 (V : Valuation τ sig (Elt F)) : after hostOps1_2 V (Proc.devRef .tc main_v69) =
    shapeCast S2048x1 (shapeCast S2048 (extractStridedSlice S2048x1 ![0, 3] (V (Proc.devRef .tc main_v57)) slices_S2048x4_S2048x1_0_3) shapeCasts_S2048x1_S2048) shapeCasts_S2048_S2048x1 := by
  after_reads_simp
  rfl
theorem top3 (V : Valuation τ sig (Elt F)) : after hostOps1_2 V (Proc.devRef .tc main_v81) =
    shapeCast S1x2048 (shapeCast S2048 (extractStridedSlice S2048x1 ![0, 3] (V (Proc.devRef .tc main_v57)) slices_S2048x4_S2048x1_0_3) shapeCasts_S2048x1_S2048) shapeCasts_S2048_S1x2048 := by
  after_reads_simp
  rfl
theorem side3_at (x : FVec Ideal S2048x4 .f32) (i : Fin 2048) :
    shapeCast S2048x1 (shapeCast S2048 (extractStridedSlice S2048x1 ![0, 3] x slices_S2048x4_S2048x1_0_3) shapeCasts_S2048x1_S2048) shapeCasts_S2048_S2048x1 (ix2 i 0) = x (ix2 i 3) := by
  pointwise
theorem top3_at (x : FVec Ideal S2048x4 .f32) (i : Fin 2048) :
    shapeCast S1x2048 (shapeCast S2048 (extractStridedSlice S2048x1 ![0, 3] x slices_S2048x4_S2048x1_0_3) shapeCasts_S2048x1_S2048) shapeCasts_S2048_S1x2048 (ix2 0 i) = x (ix2 i 3) := by
  pointwise

/-- The padded boxes by their number. -/
def padBox (x : FVec Ideal S2000x4 .f32) (i : ℕ) (k : Fin 4) : EReal := if h : i < 2048 then long x (ix2 ⟨i, h⟩ k) else 0

/-- Below two thousand they are the chosen boxes. -/
theorem padBox_lt (x : FVec Ideal S2000x4 .f32) (i : ℕ) (h : i < 2000) : padBox x i = fun k => x (ix2 ⟨i, h⟩ k) := by
  funext k
  unfold padBox
  rw [dif_pos (by omega)]
  unfold long
  pointwise
  simp [h]

variable (m : (ℓ : Loc nD τ sig) → Buf (Elt Ideal) ℓ) (ρ : Dev nD → PrngReg)

/-- The chosen boxes. -/
theorem W21_chosen (c : Dev nD) : W21 m ρ c (Proc.devRef .tc main_v56) = chosen (F := Ideal) (boxes (m ((c : Thread nD τ).loc main_arg0)) (m ((c : Thread nD τ).loc main_arg1))) (bestAt (F := Ideal) (scores (m ((c : Thread nD τ).loc main_arg0)) (m ((c : Thread nD τ).loc main_arg1)) (m ((c : Thread nD τ).loc main_arg2)))) := by
  refine (mid_chosen (W20 m ρ c)).trans ?_
  rw [table_eq m ρ c, flat_scores m ρ c]

/-- Their scores. -/
theorem W21_values (c : Dev nD) : W21 m ρ c (Proc.devRef .tc main_values) = best (F := Ideal) (scores (m ((c : Thread nD τ).loc main_arg0)) (m ((c : Thread nD τ).loc main_arg1)) (m ((c : Thread nD τ).loc main_arg2))) := by
  refine (mid_values (W20 m ρ c)).trans ?_
  rw [flat_scores m ρ c]

/-- The padded boxes at the suppression kernel. -/
theorem W22_long (c : Dev nD) : W22 m ρ c (Proc.devRef .tc main_v57) = long (F := Ideal) (W21 m ρ c (Proc.devRef .tc main_v56)) :=
  mid_long (W21 m ρ c) (mid_zero _)

/-- The suppression kernel's eight arguments hold the padded boxes' edges. -/
theorem holdBoxes (c : Dev nD) : HoldBoxes (padBox (W21 m ρ c (Proc.devRef .tc main_v56)))
    (W23 m ρ c (Proc.devRef .tc main_v60)) (W23 m ρ c (Proc.devRef .tc main_v63)) (W23 m ρ c (Proc.devRef .tc main_v66)) (W23 m ρ c (Proc.devRef .tc main_v69))
    (W23 m ρ c (Proc.devRef .tc main_v72)) (W23 m ρ c (Proc.devRef .tc main_v75)) (W23 m ρ c (Proc.devRef .tc main_v78)) (W23 m ρ c (Proc.devRef .tc main_v81)) := by
  have h : ∀ (i : Fin 2048) (k : Fin 4), W22 m ρ c (Proc.devRef .tc main_v57) (ix2 i k) = padBox (W21 m ρ c (Proc.devRef .tc main_v56)) i k := by
    intro i k
    rw [W22_long]
    unfold padBox
    rw [dif_pos i.isLt]
  constructor
  · intro i; exact (congrFun (side0 (W22 m ρ c)) _).trans ((side0_at _ i).trans (h i 0))
  · intro i; exact (congrFun (side1 (W22 m ρ c)) _).trans ((side1_at _ i).trans (h i 1))
  · intro i; exact (congrFun (side2 (W22 m ρ c)) _).trans ((side2_at _ i).trans (h i 2))
  · intro i; exact (congrFun (side3 (W22 m ρ c)) _).trans ((side3_at _ i).trans (h i 3))
  · intro i; exact (congrFun (top0 (W22 m ρ c)) _).trans ((top0_at _ i).trans (h i 0))
  · intro i; exact (congrFun (top1 (W22 m ρ c)) _).trans ((top1_at _ i).trans (h i 1))
  · intro i; exact (congrFun (top2 (W22 m ρ c)) _).trans ((top2_at _ i).trans (h i 2))
  · intro i; exact (congrFun (top3 (W22 m ρ c)) _).trans ((top3_at _ i).trans (h i 3))

/-- The keep row: one at the boxes the greedy choice keeps. -/
theorem W24_keep (c : Dev nD) (j : Fin 2048) : W24 m ρ c (Proc.devRef .tc main_v82) (ix2 0 j)
    = ind (greedy (hit (padBox (W21 m ρ c (Proc.devRef .tc main_v56)))) j j) := by
  rw [array1_8]
  exact keep_final (holdBoxes m ρ c) j

end Cert.Proof.KernelIdeal
-- ==== Proof.TailKernelIdeal.lean ====
/- The host operations after the suppression kernel: the order in which the boxes are taken and the result's rows, as terms over
   the keep row, the chosen boxes and their scores (`KernelIdeal`). -/
module

public import proofs.«01_k».proof.Proof.RunKernelIdeal
public import Idealize.ShloMosaic.Lib.StableHlo.ReadAt

@[expose] public section

set_option maxRecDepth 16384

noncomputable section

namespace Cert.Proof.KernelIdeal

open Cert.KernelIdeal Cert.KernelIdeal.Gen Idealize.ShloMosaic Idealize.ShloMosaic.TcCoe StableHlo

variable {F : FTy → Type} [FloatOps F]

/-- The boxes taken first: those that stand and have a score. -/
def flags (row : FVec F S1x2048 .f32) (values : FVec F S2000 .f32) : IVec S2000 1 :=
  andi (cmpf .ogt (shapeCast S2000 (extractStridedSlice S1x2000 ![0, 0] row slices_S1x2048_S1x2000_0_0) shapeCasts_S1x2000_S2000) (broadcastInDim S2000 ![] bcast_S_S2000 (constant S_ .f32 0x00000000#32)))
    (cmpf .ogt values (broadcastInDim S2000 ![] bcast_S_S2000 (constant S_ .f32 0xFF800000#32)))

/-- How many flags there are up to each position. -/
def running (fl : IVec S2000 1) : IVec S2000 32 :=
  Host.reduceWindow IntOp.addi ![2000] ![1] ![1999] ![0] (extui 32 fl natLt_1_32) (broadcastInDim S_ ![] bcast_S_S_ (constantI S_ 32 0#32)) reduceWindows_S2000_S2000_w2000s1p1999_0 h_S_

/-- The place each position goes to: the flagged ones first. -/
def places (fl : IVec S2000 1) : IVec S2000 32 :=
  select fl (subi (running fl) (broadcastInDim S2000 ![] bcast_S_S2000 (constantI S_ 32 1#32)))
    (subi (addi (broadcastInDim S2000 ![] bcast_S_S2000 (shapeCast S_ (extractStridedSlice S1 ![1999] (running fl) slices_S2000_S1_1999) shapeCasts_S1_S_)) (iotaInDim S2000 32 0)) (running fl))

/-- An index counted from the end where it is negative. -/
def wrap2000 (x : IVec S2000 32) : IVec S2000 32 :=
  select (cmpi .slt x (broadcastInDim S2000 ![] bcast_S_S2000 (constantI S_ 32 0#32))) (addi x (broadcastInDim S2000 ![] bcast_S_S2000 (constantI S_ 32 2000#32))) x

/-- The first thousand positions in the order of their places. -/
def order (pl : IVec S2000 32) : IVec S1000 32 :=
  extractStridedSlice S1000 ![0] (Host.scatter scatter_S2000_S2000x1_S2000_n_0_0_1 (fun _ b => b) (broadcastInDim S2000 ![] bcast_S_S2000 (constantI S_ 32 0#32))
    (broadcastInDim S2000x1 ![0] bcast_S2000_S2000x1_0 (wrap2000 pl)) (iotaInDim S2000 32 0)) slices_S2000_S1000_0

/-- An index counted from the end where it is negative. -/
def wrap1000 (x : IVec S1000 32) : IVec S1000x1 32 :=
  broadcastInDim S1000x1 ![0] bcast_S1000_S1000x1_0
    (select (cmpi .slt x (broadcastInDim S1000 ![] bcast_S_S1000 (constantI S_ 32 0#32))) (addi x (broadcastInDim S1000 ![] bcast_S_S1000 (constantI S_ 32 2000#32))) x)

/-- Four columns beside one. -/
def beside (a : FVec F S1000x4 .f32) (b : FVec F S1000x1 .f32) : FVec F S1000x5 .f32 :=
  concatenate S1000x5 1 [⟨S1000x4, a⟩, ⟨S1000x1, b⟩] concatenates_S1000x4_S1000x1_S1000x5_d1

/-- The result's rows: the boxes and scores at the given positions. -/
def rows (boxes : FVec F S2000x4 .f32) (values : FVec F S2000 .f32) (o : IVec S1000 32) : FVec F S1000x5 .f32 :=
  beside (Host.gather gather_S2000x4_S1000x1_S1000x4_1_0_n_n_0_1_14 boxes (wrap1000 o))
    (broadcastInDim S1000x1 ![0] bcast_S1000_S1000x1_0 (Host.gather gather_S2000_S1000x1_S1000_n_0_n_n_0_1_1 values (wrap1000 o)))

set_option maxHeartbeats 400000

theorem tail_flags (V : Valuation τ sig (Elt F)) : after hostOps2 V (Proc.devRef .tc main_v89) = flags (V (Proc.devRef .tc main_v82)) (V (Proc.devRef .tc main_values)) := by
  after_reads_simp
  unfold flags
  rfl
theorem tail_wide (V : Valuation τ sig (Elt F)) : after hostOps2 V (Proc.devRef .tc main_v90) = extui 32 (flags (V (Proc.devRef .tc main_v82)) (V (Proc.devRef .tc main_values))) natLt_1_32 := by
  after_reads_simp
  unfold flags
  rfl

theorem tail_running (V : Valuation τ sig (Elt F)) (fl : IVec S2000 1) (h : V (Proc.devRef .tc main_v90) = extui 32 fl natLt_1_32) : after hostOps2_1 V (Proc.devRef .tc main_v91) = running fl := by
  after_reads_simp
  simp -implicitDefEqProofs only [StableHlo.TRef.toBuf, StableHlo.TRef.ofBuf, cast_cast, cast_eq]
  rw [h]
  unfold running
  with_reducible rfl

theorem tail_v116 (V : Valuation τ sig (Elt F))  (h : V (Proc.devRef .tc main_v94) = iotaInDim S2000 32 0) : upto hostOps2_4 V 31 (Proc.devRef .tc main_v116)
    = Host.gather gather_S2000x4_S1000x1_S1000x4_1_0_n_n_0_1_14 (V (Proc.devRef .tc main_v56)) (wrap1000 (order (V (Proc.devRef .tc main_v100)))) := by
  after_reads_simp
  rw [h]
  unfold wrap1000 order wrap2000
  with_reducible rfl

theorem tail_v124 (V : Valuation τ sig (Elt F)) (h : V (Proc.devRef .tc main_v94) = iotaInDim S2000 32 0) : upto hostOps2_4 V 31 (Proc.devRef .tc main_v124)
    = broadcastInDim S1000x1 ![0] bcast_S1000_S1000x1_0 (Host.gather gather_S2000_S1000x1_S1000_n_0_n_n_0_1_1 (V (Proc.devRef .tc main_values)) (wrap1000 (order (V (Proc.devRef .tc main_v100))))) := by
  after_reads_simp
  rw [h]
  unfold wrap1000 order wrap2000
  with_reducible rfl

theorem tail_rows (V : Valuation τ sig (Elt F)) (h : V (Proc.devRef .tc main_v94) = iotaInDim S2000 32 0) : after hostOps2_4 V (Proc.devRef .tc main_v125)
    = rows (V (Proc.devRef .tc main_v56)) (V (Proc.devRef .tc main_values)) (order (V (Proc.devRef .tc main_v100))) := by
  after_reads_simp
  refine Eq.trans (b := beside (upto hostOps2_4 V 31 (Proc.devRef .tc main_v116)) (upto hostOps2_4 V 31 (Proc.devRef .tc main_v124))) (by unfold beside; with_reducible rfl) ?_
  rw [tail_v116 V h, tail_v124 V h]
  unfold rows
  with_reducible rfl

theorem tail_v99 (V : Valuation τ sig (Elt F)) : after hostOps2_2 V (Proc.devRef .tc main_v99) =
    subi (addi (broadcastInDim S2000 ![] bcast_S_S2000 (shapeCast S_ (extractStridedSlice S1 ![1999] (V (Proc.devRef .tc main_v91)) slices_S2000_S1_1999) shapeCasts_S1_S_)) (iotaInDim S2000 32 0)) (V (Proc.devRef .tc main_v91)) := by
  after_reads_simp
  rfl
theorem tail_v96 (V : Valuation τ sig (Elt F)) : after hostOps2_2 V (Proc.devRef .tc main_v96) =
    subi (V (Proc.devRef .tc main_v91)) (broadcastInDim S2000 ![] bcast_S_S2000 (constantI S_ 32 1#32)) := by
  after_reads_simp
theorem tail_v94 (V : Valuation τ sig (Elt F)) : after hostOps2_2 V (Proc.devRef .tc main_v94) = iotaInDim S2000 32 0 := by
  after_reads_simp

theorem tail_v100 (V : Valuation τ sig (Elt F)) : after hostOps2_3 V (Proc.devRef .tc main_v100) = select (V (Proc.devRef .tc main_v89)) (V (Proc.devRef .tc main_v96)) (V (Proc.devRef .tc main_v99)) := by
  after_reads_simp
  simp -implicitDefEqProofs only [StableHlo.TRef.toBuf, StableHlo.TRef.ofBuf, cast_cast, cast_eq]

variable (m : (ℓ : Loc nD τ sig) → Buf (Elt F) ℓ) (ρ : Dev nD → PrngReg)

/-- The kernel's result: the rows of the chosen boxes, in the order the keep row gives. -/
theorem W29_rows (c : Dev nD) : W29 m ρ c (Proc.devRef .tc main_v125)
    = rows (W21 m ρ c (Proc.devRef .tc main_v56)) (W21 m ρ c (Proc.devRef .tc main_values))
        (order (places (flags (W24 m ρ c (Proc.devRef .tc main_v82)) (W21 m ρ c (Proc.devRef .tc main_values))))) := by
  have v56 : W28 m ρ c (Proc.devRef .tc main_v56) = W21 m ρ c (Proc.devRef .tc main_v56) := by
    rw [W28_of m ρ c main_v56 (by decide +kernel), W27_of m ρ c main_v56 (by decide +kernel), W26_of m ρ c main_v56 (by decide +kernel), W25_of m ρ c main_v56 (by decide +kernel), W24_of m ρ c main_v56 (by decide +kernel), W23_of m ρ c main_v56 (by decide +kernel), W22_of m ρ c main_v56 (by decide +kernel)]
  have val24 : W24 m ρ c (Proc.devRef .tc main_values) = W21 m ρ c (Proc.devRef .tc main_values) := by
    rw [W24_of m ρ c main_values (by decide +kernel), W23_of m ρ c main_values (by decide +kernel), W22_of m ρ c main_values (by decide +kernel)]
  have val : W28 m ρ c (Proc.devRef .tc main_values) = W21 m ρ c (Proc.devRef .tc main_values) := by
    rw [W28_of m ρ c main_values (by decide +kernel), W27_of m ρ c main_values (by decide +kernel), W26_of m ρ c main_values (by decide +kernel), W25_of m ρ c main_values (by decide +kernel), val24]
  have v94 : W28 m ρ c (Proc.devRef .tc main_v94) = iotaInDim S2000 32 0 := by
    rw [W28_of m ρ c main_v94 (by decide +kernel)]; exact tail_v94 _
  have v91 : W26 m ρ c (Proc.devRef .tc main_v91) = running (flags (W24 m ρ c (Proc.devRef .tc main_v82)) (W21 m ρ c (Proc.devRef .tc main_values))) := by
    rw [← val24]
    exact tail_running _ _ (tail_wide _)
  have v89 : W27 m ρ c (Proc.devRef .tc main_v89) = flags (W24 m ρ c (Proc.devRef .tc main_v82)) (W21 m ρ c (Proc.devRef .tc main_values)) := by
    rw [W27_of m ρ c main_v89 (by decide +kernel), W26_of m ρ c main_v89 (by decide +kernel), ← val24]
    exact tail_flags _
  have v100 : W28 m ρ c (Proc.devRef .tc main_v100) = places (flags (W24 m ρ c (Proc.devRef .tc main_v82)) (W21 m ρ c (Proc.devRef .tc main_values))) := by
    refine (tail_v100 _).trans ?_
    rw [v89, show W27 m ρ c (Proc.devRef .tc main_v96) = _ from tail_v96 _, show W27 m ρ c (Proc.devRef .tc main_v99) = _ from tail_v99 _, v91]
    unfold places
    with_reducible rfl
  refine (tail_rows _ v94).trans ?_
  rw [v56, val, v100]

end Cert.Proof.KernelIdeal
-- ==== Proof.Bit.lean ====
/- Truth values as single bits. -/
module

public import Idealize.ShloMosaic.Lib.PointwiseCore

@[expose] public section

noncomputable section

namespace Cert.Proof

open Idealize.ShloMosaic

open Classical in
/-- A truth value as a bit. -/
def bit (p : Prop) : BitVec 1 := if p then 1#1 else 0#1

/-- The bit of a truth is one. -/
theorem bit_true {p : Prop} (h : p) : bit p = 1#1 := if_pos h
/-- The bit of a falsehood is nought. -/
theorem bit_false {p : Prop} (h : ¬p) : bit p = 0#1 := if_neg h

/-- A decided truth value's bit. -/
theorem ofBool_decide (p : Prop) [Decidable p] : BitVec.ofBool (decide p) = bit p := by
  by_cases h : p <;> simp [bit, h]

/-- Both of two. -/
theorem andi_bit (p q : Prop) : IntOp.andi (bit p) (bit q) = bit (p ∧ q) := by
  by_cases hp : p <;> by_cases hq : q <;> simp [bit, hp, hq, IntOp.andi]

/-- The opposite. -/
theorem not_bit (p : Prop) : ~~~(bit p) = bit (¬p) := by
  by_cases hp : p <;> simp [bit, hp]

/-- Equivalent truth values have the same bit. -/
theorem bit_congr {p q : Prop} (h : p ↔ q) : bit p = bit q := by rw [propext h]

/-- A bit is set when its truth value holds. -/
theorem bit_eq_one (p : Prop) : bit p = 1#1 ↔ p := by
  by_cases hp : p <;> simp [bit, hp]

/-- A choice by a bit. -/
theorem select_bit {α : Type} (p : Prop) [Decidable p] (x y : α) : Scalar.select (bit p) x y = if p then x else y := by
  by_cases hp : p <;> simp [bit, hp, Scalar.select]

end Cert.Proof
-- ==== Proof.FlagsKernelIdeal.lean ====
/- Which boxes the suppressing program takes first: those kept with a score above the bottom (`KernelIdeal`). -/
module

public import proofs.«01_k».proof.Proof.TailKernelIdeal
public import proofs.«01_k».proof.Proof.Overlap
public import proofs.«01_k».proof.Proof.Bit

@[expose] public section

set_option maxRecDepth 16384

noncomputable section

namespace Cert.Proof

open Idealize.ShloMosaic

/-- The word of negative infinity is the least extended real. -/
theorem ofBits_bottom : Ideal.ofBits .f32 4286578688#32 = ⊥ := by
  simp [Ideal.ofBits, Ideal.ieee]

namespace KernelIdeal

open Cert.KernelIdeal Cert.KernelIdeal.Gen

/-- A position is flagged when it is kept with a score above the bottom. -/
theorem flags_at (row : FVec Ideal S1x2048 .f32) (values : FVec Ideal S2000 .f32) (P : ℕ → Prop) (hP : ∀ j : Fin 2048, row (ix2 0 j) = ind (P j)) (i : Fin 2000) :
    flags row values (ix1 i) = bit (P i ∧ ⊥ < values (ix1 i)) := by
  unfold flags
  pointwise
  rw [hP ⟨i, by omega⟩, ofBits_bottom, ofBool_decide, ofBool_decide, andi_bit]
  exact bit_congr (and_congr_left fun _ => ind_pos _)

/-- The running count's summands. -/
theorem extui_flag (fl : IVec S2000 1) (i : Fin 2000) : extui 32 fl natLt_1_32 (ix1 i) = (fl (ix1 i)).setWidth 32 := by
  pointwise

/-- The place of a position, from the running count. -/
theorem places_read (fl : IVec S2000 1) (i : Fin 2000) : places fl (ix1 i)
    = Scalar.select (fl (ix1 i)) (running fl (ix1 i) - 1#32) (running fl (ix1 ⟨1999, by decide⟩) + BitVec.ofNat 32 i - running fl (ix1 i)) := by
  unfold places
  generalize running fl = r
  pointwise
  rfl

/-- The wrapped index at a position. -/
theorem wrap_read (x : IVec S2000 32) (i : Fin 2000) : wrap2000 x (ix1 i)
    = Scalar.select (IntOp.cmpi .slt (x (ix1 i)) (BitVec.ofNat 32 0)) (x (ix1 i) + 2000#32) (x (ix1 i)) := by
  unfold wrap2000
  pointwise
  rfl

end KernelIdeal

end Cert.Proof
-- ==== Proof.StablePartition.lean ====
/- Sorting scores that are already in descending order wherever they count, and at the bottom elsewhere, is a stable partition:
   the flagged positions in order, then the others in order. -/
module

public import Idealize.ShloMosaic.Lib.SortPrefix
public import Mathlib.Data.Nat.Count

@[expose] public section

namespace Cert.Proof

open Idealize.ShloMosaic

/-- A stable sort reads its relation only between a later element of the list and an earlier one. -/
theorem stableSort_congr_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- So a sort of positions by a strict order of keys is the sort by key and then position. -/
theorem sortedFrom_key {n : ℕ} {κ : Type} [DecidableEq κ] (lt : κ → κ → Bool) (key : Fin n → κ) :
    sortedFrom (fun k k' : Fin n => lt (key k) (key k')) = sortedFrom fun k k' : Fin n => lt (key k) (key k') || (decide (key k = key k') && decide (k < k')) := by
  have e : sortPositions n (fun k k' : Fin n => lt (key k) (key k')) = sortPositions n fun k k' : Fin n => lt (key k) (key k') || (decide (key k = key k') && decide (k < k')) := by
    refine stableSort_congr_later _ _ _ ?_
    refine (List.pairwise_lt_finRange n).imp fun {a b} hab => ?_
    simp [not_lt.mpr hab.le]
  funext k
  unfold sortedFrom
  rw [List.get_of_eq e]
  rfl

section

variable (f : ℕ → Prop) [DecidablePred f]

/-- Where the stable partition by `f` puts position `i` of `n`. -/
def place (n i : ℕ) : ℕ := if f i then Nat.count f i else Nat.count f n + (i - Nat.count f i)

variable {f}

/-- More flagged positions come before a position past a flagged one. -/
theorem count_step {a b : ℕ} (h : a < b) (ha : f a) : Nat.count f a < Nat.count f b := Nat.count_strict_mono ha h

/-- Fewer positions are left unflagged before an earlier unflagged position. -/
theorem rest_step {a b : ℕ} (h : a < b) (ha : ¬f a) : a - Nat.count f a < b - Nat.count f b := by
  have h1 : Nat.count f (a + 1) = Nat.count f a := by rw [Nat.count_succ, if_neg ha]; rfl
  have h2 : Nat.count f b ≤ Nat.count f (a + 1) + (b - (a + 1)) := by
    obtain ⟨d, rfl⟩ : ∃ d, b = a + 1 + d := ⟨b - (a + 1), by omega⟩
    rw [Nat.count_add]
    have := Nat.count_le (fun k => f (a + 1 + k)) (n := d)
    omega
  have h3 := Nat.count_le f (n := a)
  omega

/-- Places stay within the vector. -/
theorem place_lt {n i : ℕ} (h : i < n) : place f n i < n := by
  unfold place
  split_ifs with hi
  · exact lt_of_lt_of_le (count_step h hi) (Nat.count_le f)
  · have h1 := rest_step h hi
    have h2 := Nat.count_le f (n := n)
    omega

/-- The partition keeps order among the flagged and among the others, and puts every flagged position first. -/
theorem place_lt_place {n a b : ℕ} (ha : a < n) (h : (f a ∧ ¬f b) ∨ ((f a ↔ f b) ∧ a < b)) : place f n a < place f n b := by
  unfold place
  rcases h with ⟨h1, h2⟩ | ⟨h1, h2⟩
  · rw [if_pos h1, if_neg h2]
    exact lt_of_lt_of_le (count_step ha h1) (Nat.le_add_right _ _)
  · by_cases hf : f a
    · rw [if_pos hf, if_pos (h1.mp hf)]
      exact count_step h2 hf
    · rw [if_neg hf, if_neg (fun h => hf (h1.mpr h))]
      exact Nat.add_lt_add_left (rest_step h2 hf) _

/-- Of two positions the partition puts one or the other first. -/
theorem place_cases (a b : ℕ) (h : a ≠ b) : ((f a ∧ ¬f b) ∨ ((f a ↔ f b) ∧ a < b)) ∨ ((f b ∧ ¬f a) ∨ ((f b ↔ f a) ∧ b < a)) := by
  rcases lt_or_gt_of_ne h with h' | h' <;> by_cases ha : f a <;> by_cases hb : f b <;> simp [ha, hb, h', h'.le]

/-- No two positions share a place. -/
theorem place_injective {n : ℕ} {a b : ℕ} (ha : a < n) (hb : b < n) (h : place f n a = place f n b) : a = b := by
  by_contra hne
  rcases place_cases (f := f) a b hne with h' | h'
  · exact absurd h (place_lt_place ha h').ne
  · exact absurd h (place_lt_place hb h').ne'

/-- Scores that hold descending values at the flagged positions and the least element elsewhere: the sort's source at the
    partition's place of `i` is `i`. -/
theorem sortedFrom_place {n : ℕ} {κ : Type} [LinearOrder κ] [OrderBot κ] (x v : Fin n → κ) (hv : ∀ i j, i < j → v j ≤ v i)
    (hx : ∀ i : Fin n, x i = if f i then v i else ⊥) (hpos : ∀ i : Fin n, f i → ⊥ < v i) (i : Fin n) :
    sortedFrom (fun k k' : Fin n => decide (x k' < x k)) ⟨place f n i, place_lt i.isLt⟩ = i := by
  have hB := StrictTotalBefore.of_key_then_position (n := n) (fun a b : κ => decide (b < a)) x (fun a => by simp)
    (fun a b c h1 h2 => by simp only [decide_eq_true_eq] at *; exact h2.trans h1)
    (fun a b => by simp only [decide_eq_true_eq]; rcases lt_trichotomy a b with h | h | h <;> simp [h])
  rw [sortedFrom_key (fun a b : κ => decide (b < a)) x]
  let e : Fin n → Fin n := fun i => ⟨place f n i, place_lt i.isLt⟩
  have he : Function.Bijective e := Finite.injective_iff_bijective.mp fun a b h => Fin.ext (place_injective a.isLt b.isLt (congrArg Fin.val h))
  let σ := (Equiv.ofBijective e he).symm
  have hσ : ∀ p, place f n (σ p) = p.val := fun p => congrArg Fin.val ((Equiv.ofBijective e he).apply_symm_apply p)
  have hmain : ∀ a b : Fin n, ((f a ∧ ¬f b) ∨ ((f a ↔ f b) ∧ a.val < b.val)) → (decide (x b < x a) || (decide (x a = x b) && decide (a < b))) = true := by
    intro a b h
    rcases h with ⟨h1, h2⟩ | ⟨h1, h2⟩
    · rw [hx a, hx b, if_pos h1, if_neg h2]
      simp [hpos a h1]
    · by_cases hf : f a
      · rw [hx a, hx b, if_pos hf, if_pos (h1.mp hf)]
        rcases (hv a b h2).lt_or_eq with h | h
        · simp [h]
        · simp [h, Fin.lt_def, h2]
      · rw [hx a, hx b, if_neg hf, if_neg (fun h => hf (h1.mpr h))]
        simp [Fin.lt_def, h2]
  have key := hB.sortedFrom_eq_of_prefix (Nat.le_refl n) σ σ.injective (fun p q hpq => ?_) (fun p q hq => ?_) (e i)
  · refine key.trans ?_
    exact (Equiv.ofBijective e he).symm_apply_apply i
  · refine hB.asymm _ _ ?_
    have hne : (σ p).val ≠ (σ q).val := fun h => hpq.ne (σ.injective (Fin.ext h))
    rcases place_cases (f := f) _ _ hne with h | h
    · exact hmain _ _ h
    · have := place_lt_place (n := n) (σ q).isLt h
      rw [hσ, hσ] at this
      exact absurd this (not_lt.mpr (le_of_lt hpq))
  · exact absurd (σ.apply_symm_apply q) (hq _)

end

end Cert.Proof
-- ==== Proof.PlacesKernelIdeal.lean ====
/- The order in which the suppressing program takes the boxes: flagged positions first, each at its place in the stable
   partition (`KernelIdeal`). -/
module

public import proofs.«01_k».proof.Proof.FlagsKernelIdeal
public import proofs.«01_k».proof.Proof.StablePartition
public import proofs.«01_k».proof.Proof.Bit
public import Idealize.ShloMosaic.Lib.Routing.Ops
public import Idealize.ShloMosaic.Lib.Routing.OpsSet
public import Idealize.ShloMosaic.Lib.WordCmp

@[expose] public section

set_option maxRecDepth 16384

noncomputable section

namespace Cert.Proof.KernelIdeal

open Cert.KernelIdeal Cert.KernelIdeal.Gen Idealize.ShloMosaic
open Idealize.ShloMosaic.Routing (shape1 shape2)

variable (f : ℕ → Prop) [DecidablePred f] (fl : IVec S2000 1) (hfl : ∀ i : Fin 2000, fl (ix1 i) = bit (f i))

include hfl

/-- The running count of flags. -/
theorem running_at (i : Fin 2000) : running fl (ix1 i) = BitVec.ofNat 32 (Nat.count f (i + 1)) := by
  unfold running
  rw [← Routing.sum_map_ite f (i + 1), ix1_eq_valueIdx]
  refine Routing.cumsum1 (N := 2000) (Nm1 := 1999) rfl _ (fun c => if f c then 1 else 0) (fun j => ?_) _ rfl _ _ i
  rw [← ix1_eq_valueIdx, extui_flag, hfl]
  by_cases h : f j
  · rw [bit_true h, if_pos h]; rfl
  · rw [bit_false h, if_neg h]; rfl

/-- The place of a position. -/
theorem places_at (i : Fin 2000) : places fl (ix1 i) = BitVec.ofNat 32 (place f 2000 i) := by
  rw [places_read, hfl, select_bit, running_at f fl hfl, running_at f fl hfl]
  unfold place
  by_cases h : f i
  · rw [if_pos h, if_pos h, Nat.count_succ, if_pos h, BitVec.ofNat_add]
    exact BitVec.add_sub_cancel _ _
  · rw [if_neg h, if_neg h, Nat.count_succ f i, if_neg h]
    have hle := Nat.count_le f (n := (i : ℕ))
    have e : Nat.count f 2000 + (i : ℕ) = Nat.count f 2000 + (i - Nat.count f i) + (Nat.count f i + 0) := by omega
    rw [← BitVec.ofNat_add]
    show BitVec.ofNat 32 (Nat.count f 2000 + (i : ℕ)) - _ = _
    rw [e, BitVec.ofNat_add]
    exact BitVec.add_sub_cancel _ _

/-- The position taken at the place of `i` is `i`. -/
theorem order_at (p : Fin 1000) (i : Fin 2000) (hi : place f 2000 i = p) : order (places fl) (ix1 p) = BitVec.ofNat 32 i := by
  have hplace : ∀ j : Fin 2000, place f 2000 j < 2000 := fun j => place_lt j.isLt
  have hw : ∀ j : Fin 2000, wrap2000 (places fl) (ix1 j) = BitVec.ofNat 32 (place f 2000 j) := by
    intro j
    have := hplace j
    rw [wrap_read, places_at f fl hfl, WordCmp.cmpi_slt_ofNat (by omega) (by omega), ofBool_decide, bit_false (by omega)]
    rfl
  unfold order
  generalize wrap2000 (places fl) = w at hw
  rw [ix1_eq_valueIdx]
  refine (Routing.slice1 (m := 2000) (n := 1000) 0 _ _ p (by omega)).trans ?_
  have key := Routing.scatter_set (N := 2000) scatter_S2000_S2000x1_S2000_n_0_0_1 rfl rfl rfl
    (broadcastInDim S2000 ![] bcast_S_S2000 (constantI S_ 32 0#32)) (broadcastInDim S2000x1 ![0] bcast_S2000_S2000x1_0 w) (iotaInDim S2000 32 0)
    (place f 2000) (fun j => ?_) (fun j => ?_) ⟨0 + p.val, by omega⟩ (BitVec.ofNat 32 i) (fun j hj => ?_)
  · exact key.1 ⟨i, by rw [hi]; exact (Nat.zero_add _).symm⟩
  · exact (Routing.bcCol (n := 2000) _ w j).trans (hw j)
  · exact lt_trans (hplace j) (by decide)
  · have hj' : place f 2000 j = p := hj.trans (Nat.zero_add _)
    have : j = i := Fin.ext (place_injective (f := f) j.isLt i.isLt (hj'.trans hi.symm))
    subst this
    rfl

end Cert.Proof.KernelIdeal
-- ==== Proof.HostReference.lean ====
/- The reference's host operations before its loop and after it, as terms over what each stretch is entered with. -/
module

public import proofs.«01_k».proof.Proof.RunReference
public import Idealize.ShloMosaic.Lib.StableHlo.ReadAt

@[expose] public section

set_option maxRecDepth 16384

noncomputable section

namespace Cert.Proof.ReferenceIdeal

open Cert.ReferenceIdeal Cert.ReferenceIdeal.Gen Cert.ReferenceIdeal.Value
open Idealize.ShloMosaic Idealize.ShloMosaic.TcCoe Idealize.ShloMosaic.StableHlo

variable {F : FTy → Type} [FloatOps F]

/-- Column 0 of a table. -/
def column0 (x : FVec F S20000x4 .f32) : FVec F S20000 .f32 :=
  shapeCast S20000 (extractStridedSlice S20000x1 ![0, 0] x slices_S20000x4_S20000x1_0_0) shapeCasts_S20000x1_S20000

/-- Column 1 of a table. -/
def column1 (x : FVec F S20000x4 .f32) : FVec F S20000 .f32 :=
  shapeCast S20000 (extractStridedSlice S20000x1 ![0, 1] x slices_S20000x4_S20000x1_0_1) shapeCasts_S20000x1_S20000

/-- Column 2 of a table. -/
def column2 (x : FVec F S20000x4 .f32) : FVec F S20000 .f32 :=
  shapeCast S20000 (extractStridedSlice S20000x1 ![0, 2] x slices_S20000x4_S20000x1_0_2) shapeCasts_S20000x1_S20000

/-- Column 3 of a table. -/
def column3 (x : FVec F S20000x4 .f32) : FVec F S20000 .f32 :=
  shapeCast S20000 (extractStridedSlice S20000x1 ![0, 3] x slices_S20000x4_S20000x1_0_3) shapeCasts_S20000x1_S20000

/-- One number everywhere. -/
def every (w : BitVec 32) : FVec F S20000 .f32 := broadcastInDim S20000 ![] bcast_S_S20000 (constant S_ .f32 w)

/-- The middles of the shifted anchors along a direction. -/
def middles (a b d : FVec F S20000 .f32) : FVec F S20000 .f32 := addf (mulf d (subf b a)) (addf a (mulf (every 0x3F000000#32) (subf b a)))

/-- Half of the scaled extents. -/
def halves (a b e : FVec F S20000 .f32) : FVec F S20000 .f32 :=
  mulf (every 0x3F000000#32) (mulf (Host.exp (minimumf e (every 0x40800000#32))) (subf b a))

/-- A column clipped to the picture. -/
def clipped (x : FVec F S20000 .f32) : FVec F S20000 .f32 := minimumf (every 0x44800000#32) (maximumf (every 0x00000000#32) x)

/-- Four one-lane columns side by side. -/
def stack (a b c d : FVec F S20000x1 .f32) : FVec F S20000x4 .f32 :=
  concatenate S20000x4 1 [⟨S20000x1, a⟩, ⟨S20000x1, b⟩, ⟨S20000x1, c⟩, ⟨S20000x1, d⟩] concatenates_S20000x1_S20000x1_S20000x1_S20000x1_S20000x4_d1

/-- A column as a table of one lane. -/
def lane (x : FVec F S20000 .f32) : FVec F S20000x1 .f32 := broadcastInDim S20000x1 ![0] bcast_S20000_S20000x1_0 x

/-- The boxes before they are clipped. -/
def raw (a d : FVec F S20000x4 .f32) : FVec F S20000x4 .f32 :=
  stack (lane (subf (middles (column0 a) (column2 a) (column0 d)) (halves (column0 a) (column2 a) (column2 d))))
    (lane (subf (middles (column1 a) (column3 a) (column1 d)) (halves (column1 a) (column3 a) (column3 d))))
    (lane (addf (middles (column0 a) (column2 a) (column0 d)) (halves (column0 a) (column2 a) (column2 d))))
    (lane (addf (middles (column1 a) (column3 a) (column1 d)) (halves (column1 a) (column3 a) (column3 d))))

/-- The scores, each kept where its box has an extent both ways. -/
def valued (t : FVec F S20000x4 .f32) (s : FVec F S20000 .f32) : FVec F S20000 .f32 :=
  select (andi (cmpf .ogt (subf (column2 t) (column0 t)) (every 0x00000000#32)) (cmpf .ogt (subf (column3 t) (column1 t)) (every 0x00000000#32))) s (every 0xFF800000#32)

/-- The two thousand greatest scores. -/
def best (x : FVec F S20000 .f32) : FVec F S2000 .f32 := (Host.topK S2000 0 (FloatOps.cmpfTotal .gt) x sliceFits_S20000_S2000).1

/-- Where they stand. -/
def bestAt (x : FVec F S20000 .f32) : IVec S2000 32 := (Host.topK S2000 0 (FloatOps.cmpfTotal .gt) x sliceFits_S20000_S2000).2

/-- An index counted from the end where it is negative. -/
def wrap20000 (x : IVec S2000 32) : IVec S2000x1 32 :=
  broadcastInDim S2000x1 ![0] bcast_S2000_S2000x1_0
    (select (cmpi .slt x (broadcastInDim S2000 ![] bcast_S_S2000 (constantI S_ 32 0#32))) (addi x (broadcastInDim S2000 ![] bcast_S_S2000 (constantI S_ 32 20000#32))) x)

/-- The boxes at the given places. -/
def chosen (boxes : FVec F S20000x4 .f32) (at' : IVec S2000 32) : FVec F S2000x4 .f32 :=
  Host.gather gather_S20000x4_S2000x1_S2000x4_1_0_n_n_0_1_14 boxes (wrap20000 at')

/-- The areas of the chosen boxes. -/
def areas (x : FVec F S2000x4 .f32) : FVec F S2000 .f32 :=
  mulf (subf (shapeCast S2000 (extractStridedSlice S2000x1 ![0, 2] x slices_S2000x4_S2000x1_0_2) shapeCasts_S2000x1_S2000)
      (shapeCast S2000 (extractStridedSlice S2000x1 ![0, 0] x slices_S2000x4_S2000x1_0_0) shapeCasts_S2000x1_S2000))
    (subf (shapeCast S2000 (extractStridedSlice S2000x1 ![0, 3] x slices_S2000x4_S2000x1_0_3) shapeCasts_S2000x1_S2000)
      (shapeCast S2000 (extractStridedSlice S2000x1 ![0, 1] x slices_S2000x4_S2000x1_0_1) shapeCasts_S2000x1_S2000))

/-- The signed extents of the common parts, for every two boxes. -/
def extents (x : FVec F S2000x4 .f32) : FVec F S2000x2000x2 .f32 :=
  subf
    (minimumf (broadcastInDim S2000x2000x2 ![0, 1, 2] bcast_S2000x1x2_S2000x2000x2_0_1_2 (broadcastInDim S2000x1x2 ![0, 2] bcast_S2000x2_S2000x1x2_0_2 (extractStridedSlice S2000x2 ![0, 2] x slices_S2000x4_S2000x2_0_2)))
      (broadcastInDim S2000x2000x2 ![0, 1, 2] bcast_S1x2000x2_S2000x2000x2_0_1_2 (broadcastInDim S1x2000x2 ![1, 2] bcast_S2000x2_S1x2000x2_1_2 (extractStridedSlice S2000x2 ![0, 2] x slices_S2000x4_S2000x2_0_2))))
    (maximumf (broadcastInDim S2000x2000x2 ![0, 1, 2] bcast_S2000x1x2_S2000x2000x2_0_1_2 (broadcastInDim S2000x1x2 ![0, 2] bcast_S2000x2_S2000x1x2_0_2 (extractStridedSlice S2000x2 ![0, 0] x slices_S2000x4_S2000x2_0_0)))
      (broadcastInDim S2000x2000x2 ![0, 1, 2] bcast_S1x2000x2_S2000x2000x2_0_1_2 (broadcastInDim S1x2000x2 ![1, 2] bcast_S2000x2_S1x2000x2_1_2 (extractStridedSlice S2000x2 ![0, 0] x slices_S2000x4_S2000x2_0_0))))

/-- The common parts, from their clipped extents. -/
def commons (e : FVec F S2000x2000x2 .f32) : FVec F S2000x2000 .f32 :=
  mulf (shapeCast S2000x2000 (extractStridedSlice S2000x2000x1 ![0, 0, 0] e slices_S2000x2000x2_S2000x2000x1_0_0_0) shapeCasts_S2000x2000x1_S2000x2000)
    (shapeCast S2000x2000 (extractStridedSlice S2000x2000x1 ![0, 0, 1] e slices_S2000x2000x2_S2000x2000x1_0_0_1) shapeCasts_S2000x2000x1_S2000x2000)

/-- Common part over union, for every two boxes. -/
def ratios (e : FVec F S2000x2000x2 .f32) (a : FVec F S2000 .f32) : FVec F S2000x2000 .f32 :=
  Host.divf (commons e)
    (maximumf (subf (addf (broadcastInDim S2000x2000 ![0, 1] bcast_S2000x1_S2000x2000_0_1 (broadcastInDim S2000x1 ![0] bcast_S2000_S2000x1_0 a))
        (broadcastInDim S2000x2000 ![0, 1] bcast_S1x2000_S2000x2000_0_1 (broadcastInDim S1x2000 ![1] bcast_S2000_S1x2000_1 a))) (commons e))
      (broadcastInDim S2000x2000 ![] bcast_S_S2000x2000 (constant S_ .f32 0x3089705F#32)))

/-- The scores of the boxes that stand. -/
def standing (k : IVec S2000 1) (v : FVec F S2000 .f32) : FVec F S2000 .f32 :=
  select k v (broadcastInDim S2000 ![] bcast_S_S2000 (constant S_ .f32 0xFF800000#32))

/-- Where the thousand greatest stand. -/
def order (x : FVec F S2000 .f32) : IVec S1000 32 := (Host.topK S1000 0 (FloatOps.cmpfTotal .gt) x sliceFits_S2000_S1000).2

/-- An index counted from the end where it is negative. -/
def wrap1000 (x : IVec S1000 32) : IVec S1000x1 32 :=
  broadcastInDim S1000x1 ![0] bcast_S1000_S1000x1_0
    (select (cmpi .slt x (broadcastInDim S1000 ![] bcast_S_S1000 (constantI S_ 32 0#32))) (addi x (broadcastInDim S1000 ![] bcast_S_S1000 (constantI S_ 32 2000#32))) x)

/-- Four columns beside one. -/
def beside (a : FVec F S1000x4 .f32) (b : FVec F S1000x1 .f32) : FVec F S1000x5 .f32 :=
  concatenate S1000x5 1 [⟨S1000x4, a⟩, ⟨S1000x1, b⟩] concatenates_S1000x4_S1000x1_S1000x5_d1

/-- The result's rows: the boxes and scores at the given positions. -/
def rows (boxes : FVec F S2000x4 .f32) (values : FVec F S2000 .f32) (o : IVec S1000 32) : FVec F S1000x5 .f32 :=
  beside (Host.gather gather_S2000x4_S1000x1_S1000x4_1_0_n_n_0_1_14 boxes (wrap1000 o))
    (broadcastInDim S1000x1 ![0] bcast_S1000_S1000x1_0 (Host.gather gather_S2000_S1000x1_S1000_n_0_n_n_0_1_1 values (wrap1000 o)))

set_option maxHeartbeats 1000000

theorem raw0 (V : Valuation τ sig (Elt F)) : upto hostOps0 V 64 (Proc.devRef .tc main_v52) = lane (subf (middles (column0 (V (Proc.devRef .tc main_arg0))) (column2 (V (Proc.devRef .tc main_arg0))) (column0 (V (Proc.devRef .tc main_arg1)))) (halves (column0 (V (Proc.devRef .tc main_arg0))) (column2 (V (Proc.devRef .tc main_arg0))) (column2 (V (Proc.devRef .tc main_arg1))))) := by
  after_reads_simp
  unfold lane middles halves column0 column2 every
  rfl
theorem raw1 (V : Valuation τ sig (Elt F)) : upto hostOps0 V 64 (Proc.devRef .tc main_v53) = lane (subf (middles (column1 (V (Proc.devRef .tc main_arg0))) (column3 (V (Proc.devRef .tc main_arg0))) (column1 (V (Proc.devRef .tc main_arg1)))) (halves (column1 (V (Proc.devRef .tc main_arg0))) (column3 (V (Proc.devRef .tc main_arg0))) (column3 (V (Proc.devRef .tc main_arg1))))) := by
  after_reads_simp
  unfold lane middles halves column1 column3 every
  rfl
theorem raw2 (V : Valuation τ sig (Elt F)) : upto hostOps0 V 64 (Proc.devRef .tc main_v54) = lane (addf (middles (column0 (V (Proc.devRef .tc main_arg0))) (column2 (V (Proc.devRef .tc main_arg0))) (column0 (V (Proc.devRef .tc main_arg1)))) (halves (column0 (V (Proc.devRef .tc main_arg0))) (column2 (V (Proc.devRef .tc main_arg0))) (column2 (V (Proc.devRef .tc main_arg1))))) := by
  after_reads_simp
  unfold lane middles halves column0 column2 every
  rfl
theorem raw3 (V : Valuation τ sig (Elt F)) : upto hostOps0 V 64 (Proc.devRef .tc main_v55) = lane (addf (middles (column1 (V (Proc.devRef .tc main_arg0))) (column3 (V (Proc.devRef .tc main_arg0))) (column1 (V (Proc.devRef .tc main_arg1)))) (halves (column1 (V (Proc.devRef .tc main_arg0))) (column3 (V (Proc.devRef .tc main_arg0))) (column3 (V (Proc.devRef .tc main_arg1))))) := by
  after_reads_simp
  unfold lane middles halves column1 column3 every
  rfl
theorem pre_raw (V : Valuation τ sig (Elt F)) : after hostOps0 V (Proc.devRef .tc main_v56) = raw (V (Proc.devRef .tc main_arg0)) (V (Proc.devRef .tc main_arg1)) := by
  after_reads_simp
  refine Eq.trans (b := stack (upto hostOps0 V 64 (Proc.devRef .tc main_v52)) (upto hostOps0 V 64 (Proc.devRef .tc main_v53)) (upto hostOps0 V 64 (Proc.devRef .tc main_v54)) (upto hostOps0 V 64 (Proc.devRef .tc main_v55))) (by unfold stack; rfl) ?_
  rw [raw0 V, raw1 V, raw2 V, raw3 V]
  unfold raw
  with_reducible rfl
theorem pre_col0 (V : Valuation τ sig (Elt F)) : after hostOps0 V (Proc.devRef .tc main_v58) = column0 (raw (V (Proc.devRef .tc main_arg0)) (V (Proc.devRef .tc main_arg1))) := by
  after_reads_simp
  refine Eq.trans (b := column0 (stack (upto hostOps0 V 64 (Proc.devRef .tc main_v52)) (upto hostOps0 V 64 (Proc.devRef .tc main_v53)) (upto hostOps0 V 64 (Proc.devRef .tc main_v54)) (upto hostOps0 V 64 (Proc.devRef .tc main_v55)))) (by unfold column0 stack; rfl) ?_
  rw [raw0 V, raw1 V, raw2 V, raw3 V]
  unfold raw
  with_reducible rfl
theorem pre_lo0 (V : Valuation τ sig (Elt F)) : after hostOps0 V (Proc.devRef .tc main_cst_7) = constant S_ .f32 0x00000000#32 := by
  after_reads_simp
theorem pre_hi0 (V : Valuation τ sig (Elt F)) : after hostOps0 V (Proc.devRef .tc main_cst_8) = constant S_ .f32 0x44800000#32 := by
  after_reads_simp
theorem pre_clip0 (V : Valuation τ sig (Elt F)) (hl : (V (Proc.devRef .tc main_cst_7)) = constant S_ .f32 0x00000000#32) (hh : (V (Proc.devRef .tc main_cst_8)) = constant S_ .f32 0x44800000#32) : after hostOps0_1 V (Proc.devRef .tc main_v59) = clipped (V (Proc.devRef .tc main_v58)) := by
  after_reads_simp
  simp -implicitDefEqProofs only [StableHlo.TRef.toBuf, StableHlo.TRef.ofBuf, cast_cast, cast_eq]
  rw [hl, hh]
  unfold clipped every
  rfl
theorem pre_col1 (V : Valuation τ sig (Elt F)) : after hostOps0_2 V (Proc.devRef .tc main_v61) = column1 (V (Proc.devRef .tc main_v56)) := by
  after_reads_simp
  rfl
theorem pre_lo1 (V : Valuation τ sig (Elt F)) : after hostOps0_2 V (Proc.devRef .tc main_cst_9) = constant S_ .f32 0x00000000#32 := by
  after_reads_simp
theorem pre_hi1 (V : Valuation τ sig (Elt F)) : after hostOps0_2 V (Proc.devRef .tc main_cst_10) = constant S_ .f32 0x44800000#32 := by
  after_reads_simp
theorem pre_clip1 (V : Valuation τ sig (Elt F)) (hl : (V (Proc.devRef .tc main_cst_9)) = constant S_ .f32 0x00000000#32) (hh : (V (Proc.devRef .tc main_cst_10)) = constant S_ .f32 0x44800000#32) : after hostOps0_3 V (Proc.devRef .tc main_v62) = clipped (V (Proc.devRef .tc main_v61)) := by
  after_reads_simp
  simp -implicitDefEqProofs only [StableHlo.TRef.toBuf, StableHlo.TRef.ofBuf, cast_cast, cast_eq]
  rw [hl, hh]
  unfold clipped every
  rfl
theorem pre_col2 (V : Valuation τ sig (Elt F)) : after hostOps0_4 V (Proc.devRef .tc main_v64) = column2 (V (Proc.devRef .tc main_v56)) := by
  after_reads_simp
  rfl
theorem pre_lo2 (V : Valuation τ sig (Elt F)) : after hostOps0_4 V (Proc.devRef .tc main_cst_11) = constant S_ .f32 0x00000000#32 := by
  after_reads_simp
theorem pre_hi2 (V : Valuation τ sig (Elt F)) : after hostOps0_4 V (Proc.devRef .tc main_cst_12) = constant S_ .f32 0x44800000#32 := by
  after_reads_simp
theorem pre_clip2 (V : Valuation τ sig (Elt F)) (hl : (V (Proc.devRef .tc main_cst_11)) = constant S_ .f32 0x00000000#32) (hh : (V (Proc.devRef .tc main_cst_12)) = constant S_ .f32 0x44800000#32) : after hostOps0_5 V (Proc.devRef .tc main_v65) = clipped (V (Proc.devRef .tc main_v64)) := by
  after_reads_simp
  simp -implicitDefEqProofs only [StableHlo.TRef.toBuf, StableHlo.TRef.ofBuf, cast_cast, cast_eq]
  rw [hl, hh]
  unfold clipped every
  rfl
theorem pre_col3 (V : Valuation τ sig (Elt F)) : after hostOps0_6 V (Proc.devRef .tc main_v67) = column3 (V (Proc.devRef .tc main_v56)) := by
  after_reads_simp
  rfl
theorem pre_lo3 (V : Valuation τ sig (Elt F)) : after hostOps0_6 V (Proc.devRef .tc main_cst_13) = constant S_ .f32 0x00000000#32 := by
  after_reads_simp
theorem pre_hi3 (V : Valuation τ sig (Elt F)) : after hostOps0_6 V (Proc.devRef .tc main_cst_14) = constant S_ .f32 0x44800000#32 := by
  after_reads_simp
theorem pre_clip3 (V : Valuation τ sig (Elt F)) (hl : (V (Proc.devRef .tc main_cst_13)) = constant S_ .f32 0x00000000#32) (hh : (V (Proc.devRef .tc main_cst_14)) = constant S_ .f32 0x44800000#32) : after hostOps0_7 V (Proc.devRef .tc main_v68) = clipped (V (Proc.devRef .tc main_v67)) := by
  after_reads_simp
  simp -implicitDefEqProofs only [StableHlo.TRef.toBuf, StableHlo.TRef.ofBuf, cast_cast, cast_eq]
  rw [hl, hh]
  unfold clipped every
  rfl
theorem pre_lane0 (V : Valuation τ sig (Elt F)) : upto hostOps0_8 V 4 (Proc.devRef .tc main_v69) = lane (V (Proc.devRef .tc main_v59)) := by
  after_reads_simp
  unfold lane
  rfl
theorem pre_lane1 (V : Valuation τ sig (Elt F)) : upto hostOps0_8 V 4 (Proc.devRef .tc main_v70) = lane (V (Proc.devRef .tc main_v62)) := by
  after_reads_simp
  unfold lane
  rfl
theorem pre_lane2 (V : Valuation τ sig (Elt F)) : upto hostOps0_8 V 4 (Proc.devRef .tc main_v71) = lane (V (Proc.devRef .tc main_v65)) := by
  after_reads_simp
  unfold lane
  rfl
theorem pre_lane3 (V : Valuation τ sig (Elt F)) : upto hostOps0_8 V 4 (Proc.devRef .tc main_v72) = lane (V (Proc.devRef .tc main_v68)) := by
  after_reads_simp
  unfold lane
  rfl
theorem pre_table (V : Valuation τ sig (Elt F)) : after hostOps0_8 V (Proc.devRef .tc main_v73) = stack (lane (V (Proc.devRef .tc main_v59))) (lane (V (Proc.devRef .tc main_v62))) (lane (V (Proc.devRef .tc main_v65))) (lane (V (Proc.devRef .tc main_v68))) := by
  after_reads_simp
  refine Eq.trans (b := stack (upto hostOps0_8 V 4 (Proc.devRef .tc main_v69)) (upto hostOps0_8 V 4 (Proc.devRef .tc main_v70)) (upto hostOps0_8 V 4 (Proc.devRef .tc main_v71)) (upto hostOps0_8 V 4 (Proc.devRef .tc main_v72))) (by unfold stack; rfl) ?_
  rw [pre_lane0 V, pre_lane1 V, pre_lane2 V, pre_lane3 V]
theorem pre_bits (V : Valuation τ sig (Elt F)) : after hostOps0_8 V (Proc.devRef .tc main_v88) = andi (cmpf .ogt (subf (column2 (stack (lane (V (Proc.devRef .tc main_v59))) (lane (V (Proc.devRef .tc main_v62))) (lane (V (Proc.devRef .tc main_v65))) (lane (V (Proc.devRef .tc main_v68))))) (column0 (stack (lane (V (Proc.devRef .tc main_v59))) (lane (V (Proc.devRef .tc main_v62))) (lane (V (Proc.devRef .tc main_v65))) (lane (V (Proc.devRef .tc main_v68)))))) (every 0x00000000#32)) (cmpf .ogt (subf (column3 (stack (lane (V (Proc.devRef .tc main_v59))) (lane (V (Proc.devRef .tc main_v62))) (lane (V (Proc.devRef .tc main_v65))) (lane (V (Proc.devRef .tc main_v68))))) (column1 (stack (lane (V (Proc.devRef .tc main_v59))) (lane (V (Proc.devRef .tc main_v62))) (lane (V (Proc.devRef .tc main_v65))) (lane (V (Proc.devRef .tc main_v68)))))) (every 0x00000000#32)) := by
  after_reads_simp
  refine Eq.trans (b := andi (cmpf .ogt (subf (column2 (stack (upto hostOps0_8 V 4 (Proc.devRef .tc main_v69)) (upto hostOps0_8 V 4 (Proc.devRef .tc main_v70)) (upto hostOps0_8 V 4 (Proc.devRef .tc main_v71)) (upto hostOps0_8 V 4 (Proc.devRef .tc main_v72)))) (column0 (stack (upto hostOps0_8 V 4 (Proc.devRef .tc main_v69)) (upto hostOps0_8 V 4 (Proc.devRef .tc main_v70)) (upto hostOps0_8 V 4 (Proc.devRef .tc main_v71)) (upto hostOps0_8 V 4 (Proc.devRef .tc main_v72))))) (every 0x00000000#32)) (cmpf .ogt (subf (column3 (stack (upto hostOps0_8 V 4 (Proc.devRef .tc main_v69)) (upto hostOps0_8 V 4 (Proc.devRef .tc main_v70)) (upto hostOps0_8 V 4 (Proc.devRef .tc main_v71)) (upto hostOps0_8 V 4 (Proc.devRef .tc main_v72)))) (column1 (stack (upto hostOps0_8 V 4 (Proc.devRef .tc main_v69)) (upto hostOps0_8 V 4 (Proc.devRef .tc main_v70)) (upto hostOps0_8 V 4 (Proc.devRef .tc main_v71)) (upto hostOps0_8 V 4 (Proc.devRef .tc main_v72))))) (every 0x00000000#32))) (by unfold column0 column1 column2 column3 stack every; rfl) ?_
  rw [pre_lane0 V, pre_lane1 V, pre_lane2 V, pre_lane3 V]
theorem pre_least (V : Valuation τ sig (Elt F)) : after hostOps0_8 V (Proc.devRef .tc main_cst_17) = constant S_ .f32 0xFF800000#32 := by
  after_reads_simp
theorem pre_valued (V : Valuation τ sig (Elt F)) (h : (V (Proc.devRef .tc main_cst_17)) = constant S_ .f32 0xFF800000#32) : after hostOps0_9 V (Proc.devRef .tc main_v89) = select (V (Proc.devRef .tc main_v88)) (V (Proc.devRef .tc main_arg2)) (every 0xFF800000#32) := by
  after_reads_simp
  simp -implicitDefEqProofs only [StableHlo.TRef.toBuf, StableHlo.TRef.ofBuf, cast_cast, cast_eq]
  rw [h]
  unfold every
  rfl
theorem pre_values (V : Valuation τ sig (Elt F)) : after hostOps0_10 V (Proc.devRef .tc main_values) = best (V (Proc.devRef .tc main_v89)) := by
  after_reads_simp
  unfold best
  rfl
theorem pre_chosen (V : Valuation τ sig (Elt F)) : after hostOps0_10 V (Proc.devRef .tc main_v96) = chosen (V (Proc.devRef .tc main_v73)) (bestAt (V (Proc.devRef .tc main_v89))) := by
  after_reads_simp
  unfold chosen wrap20000 bestAt
  rfl
theorem pre_areas (V : Valuation τ sig (Elt F)) : after hostOps0_10 V (Proc.devRef .tc main_v107) = areas (chosen (V (Proc.devRef .tc main_v73)) (bestAt (V (Proc.devRef .tc main_v89)))) := by
  after_reads_simp
  unfold areas chosen wrap20000 bestAt
  rfl
theorem pre_extents (V : Valuation τ sig (Elt F)) : after hostOps0_10 V (Proc.devRef .tc main_v122) = extents (chosen (V (Proc.devRef .tc main_v73)) (bestAt (V (Proc.devRef .tc main_v89)))) := by
  after_reads_simp
  unfold extents chosen wrap20000 bestAt
  rfl
theorem pre_nought (V : Valuation τ sig (Elt F)) : after hostOps0_10 V (Proc.devRef .tc main_cst_19) = constant S_ .f32 0x00000000#32 := by
  after_reads_simp
theorem pre_positive (V : Valuation τ sig (Elt F)) (h : (V (Proc.devRef .tc main_cst_19)) = constant S_ .f32 0x00000000#32) : after hostOps0_11 V (Proc.devRef .tc main_v123) = maximumf (broadcastInDim S2000x2000x2 ![] bcast_S_S2000x2000x2 (constant S_ .f32 0x00000000#32)) (V (Proc.devRef .tc main_v122)) := by
  after_reads_simp
  simp -implicitDefEqProofs only [StableHlo.TRef.toBuf, StableHlo.TRef.ofBuf, cast_cast, cast_eq]
  rw [h]
  rfl
theorem pre_ratios (V : Valuation τ sig (Elt F)) : after hostOps0_12 V (Proc.devRef .tc main_v140_0) = ratios (V (Proc.devRef .tc main_v123)) (V (Proc.devRef .tc main_v107)) := by
  after_reads_simp
  unfold ratios commons
  rfl
theorem pre_iota (V : Valuation τ sig (Elt F)) : after hostOps0_12 V (Proc.devRef .tc main_v140_1) = iotaInDim S2000 32 0 := by
  after_reads_simp
  rfl
theorem pre_count (V : Valuation τ sig (Elt F)) : after hostOps0_12 V (Proc.devRef .tc main_v140_3) = constantI S_ 32 0#32 := by
  after_reads_simp
  rfl
theorem pre_ones (V : Valuation τ sig (Elt F)) : after hostOps0_12 V (Proc.devRef .tc main_v140_4) = broadcastInDim S2000 ![] bcast_S_S2000 (constantI S_ 1 1#1) := by
  after_reads_simp
  rfl

/-! ### After the loop -/

theorem post_least (V : Valuation τ sig (Elt F)) : after hostOps0_13 V (Proc.devRef .tc main_cst_24) = constant S_ .f32 0xFF800000#32 := by
  after_reads_simp
theorem post_standing (V : Valuation τ sig (Elt F)) (h : (V (Proc.devRef .tc main_cst_24)) = constant S_ .f32 0xFF800000#32) : after hostOps0_14 V (Proc.devRef .tc main_v141) = standing (V (Proc.devRef .tc main_v140_4)) (V (Proc.devRef .tc main_values)) := by
  after_reads_simp
  simp -implicitDefEqProofs only [StableHlo.TRef.toBuf, StableHlo.TRef.ofBuf, cast_cast, cast_eq]
  rw [h]
  unfold standing
  rfl
theorem post_boxes (V : Valuation τ sig (Elt F)) : upto hostOps0_15 V 21 (Proc.devRef .tc main_v148) = Host.gather gather_S2000x4_S1000x1_S1000x4_1_0_n_n_0_1_14 (V (Proc.devRef .tc main_v96)) (wrap1000 (order (V (Proc.devRef .tc main_v141)))) := by
  after_reads_simp
  unfold wrap1000 order
  rfl
theorem post_scores (V : Valuation τ sig (Elt F)) : upto hostOps0_15 V 21 (Proc.devRef .tc main_v156) = broadcastInDim S1000x1 ![0] bcast_S1000_S1000x1_0 (Host.gather gather_S2000_S1000x1_S1000_n_0_n_n_0_1_1 (V (Proc.devRef .tc main_values)) (wrap1000 (order (V (Proc.devRef .tc main_v141))))) := by
  after_reads_simp
  unfold wrap1000 order
  rfl
theorem post_rows (V : Valuation τ sig (Elt F)) : after hostOps0_15 V (Proc.devRef .tc main_v157) = rows (V (Proc.devRef .tc main_v96)) (V (Proc.devRef .tc main_values)) (order (V (Proc.devRef .tc main_v141))) := by
  after_reads_simp
  refine Eq.trans (b := beside (upto hostOps0_15 V 21 (Proc.devRef .tc main_v148)) (upto hostOps0_15 V 21 (Proc.devRef .tc main_v156))) (by unfold beside; with_reducible rfl) ?_
  rw [post_boxes V, post_scores V]
  unfold rows
  with_reducible rfl

end Cert.Proof.ReferenceIdeal
-- ==== Proof.EntryReference.lean ====
/- What the reference's loop is entered with, over the arguments: the chosen boxes, their scores and the ratios of every two. -/
module

public import proofs.«01_k».proof.Proof.HostReference
public import proofs.«01_k».proof.Proof.Decode
public import proofs.«01_k».proof.Proof.Overlap

@[expose] public section

set_option maxRecDepth 16384

noncomputable section

namespace Cert.Proof.ReferenceIdeal

open Cert.ReferenceIdeal Cert.ReferenceIdeal.Gen Cert.ReferenceIdeal.Value
open Idealize.ShloMosaic Idealize.ShloMosaic.TcCoe Idealize.ShloMosaic.StableHlo

section

variable {F : FTy → Type} [FloatOps F] (m : (ℓ : Loc nD τ sig) → Buf (Elt F) ℓ)

/-- The contents at launch. -/
abbrev R0 (c : Dev nD) : Valuation τ sig (Elt F) := fun b => m ((c : Dev nD), b)
/-- After `hostOps0`. -/
abbrev R1 (c : Dev nD) : Valuation τ sig (Elt F) := after hostOps0 (R0 m c)
theorem R1_of (c : Dev nD) (r : Ref sig .tc) (h : r ∉ hostOps0_W) : R1 m c (Proc.devRef .tc r) = R0 m c (Proc.devRef .tc r) :=
  after_of_writes_sub _ _ hostOps0_writes h
/-- After `hostOps0_1`. -/
abbrev R2 (c : Dev nD) : Valuation τ sig (Elt F) := after hostOps0_1 (R1 m c)
theorem R2_of (c : Dev nD) (r : Ref sig .tc) (h : r ∉ hostOps0_1_W) : R2 m c (Proc.devRef .tc r) = R1 m c (Proc.devRef .tc r) :=
  after_of_writes_sub _ _ hostOps0_1_writes h
/-- After `hostOps0_2`. -/
abbrev R3 (c : Dev nD) : Valuation τ sig (Elt F) := after hostOps0_2 (R2 m c)
theorem R3_of (c : Dev nD) (r : Ref sig .tc) (h : r ∉ hostOps0_2_W) : R3 m c (Proc.devRef .tc r) = R2 m c (Proc.devRef .tc r) :=
  after_of_writes_sub _ _ hostOps0_2_writes h
/-- After `hostOps0_3`. -/
abbrev R4 (c : Dev nD) : Valuation τ sig (Elt F) := after hostOps0_3 (R3 m c)
theorem R4_of (c : Dev nD) (r : Ref sig .tc) (h : r ∉ hostOps0_3_W) : R4 m c (Proc.devRef .tc r) = R3 m c (Proc.devRef .tc r) :=
  after_of_writes_sub _ _ hostOps0_3_writes h
/-- After `hostOps0_4`. -/
abbrev R5 (c : Dev nD) : Valuation τ sig (Elt F) := after hostOps0_4 (R4 m c)
theorem R5_of (c : Dev nD) (r : Ref sig .tc) (h : r ∉ hostOps0_4_W) : R5 m c (Proc.devRef .tc r) = R4 m c (Proc.devRef .tc r) :=
  after_of_writes_sub _ _ hostOps0_4_writes h
/-- After `hostOps0_5`. -/
abbrev R6 (c : Dev nD) : Valuation τ sig (Elt F) := after hostOps0_5 (R5 m c)
theorem R6_of (c : Dev nD) (r : Ref sig .tc) (h : r ∉ hostOps0_5_W) : R6 m c (Proc.devRef .tc r) = R5 m c (Proc.devRef .tc r) :=
  after_of_writes_sub _ _ hostOps0_5_writes h
/-- After `hostOps0_6`. -/
abbrev R7 (c : Dev nD) : Valuation τ sig (Elt F) := after hostOps0_6 (R6 m c)
theorem R7_of (c : Dev nD) (r : Ref sig .tc) (h : r ∉ hostOps0_6_W) : R7 m c (Proc.devRef .tc r) = R6 m c (Proc.devRef .tc r) :=
  after_of_writes_sub _ _ hostOps0_6_writes h
/-- After `hostOps0_7`. -/
abbrev R8 (c : Dev nD) : Valuation τ sig (Elt F) := after hostOps0_7 (R7 m c)
theorem R8_of (c : Dev nD) (r : Ref sig .tc) (h : r ∉ hostOps0_7_W) : R8 m c (Proc.devRef .tc r) = R7 m c (Proc.devRef .tc r) :=
  after_of_writes_sub _ _ hostOps0_7_writes h
/-- After `hostOps0_8`. -/
abbrev R9 (c : Dev nD) : Valuation τ sig (Elt F) := after hostOps0_8 (R8 m c)
theorem R9_of (c : Dev nD) (r : Ref sig .tc) (h : r ∉ hostOps0_8_W) : R9 m c (Proc.devRef .tc r) = R8 m c (Proc.devRef .tc r) :=
  after_of_writes_sub _ _ hostOps0_8_writes h
/-- After `hostOps0_9`. -/
abbrev R10 (c : Dev nD) : Valuation τ sig (Elt F) := after hostOps0_9 (R9 m c)
theorem R10_of (c : Dev nD) (r : Ref sig .tc) (h : r ∉ hostOps0_9_W) : R10 m c (Proc.devRef .tc r) = R9 m c (Proc.devRef .tc r) :=
  after_of_writes_sub _ _ hostOps0_9_writes h
/-- After `hostOps0_10`. -/
abbrev R11 (c : Dev nD) : Valuation τ sig (Elt F) := after hostOps0_10 (R10 m c)
theorem R11_of (c : Dev nD) (r : Ref sig .tc) (h : r ∉ hostOps0_10_W) : R11 m c (Proc.devRef .tc r) = R10 m c (Proc.devRef .tc r) :=
  after_of_writes_sub _ _ hostOps0_10_writes h
/-- After `hostOps0_11`. -/
abbrev R12 (c : Dev nD) : Valuation τ sig (Elt F) := after hostOps0_11 (R11 m c)
theorem R12_of (c : Dev nD) (r : Ref sig .tc) (h : r ∉ hostOps0_11_W) : R12 m c (Proc.devRef .tc r) = R11 m c (Proc.devRef .tc r) :=
  after_of_writes_sub _ _ hostOps0_11_writes h
/-- After `hostOps0_12`. -/
abbrev R13 (c : Dev nD) : Valuation τ sig (Elt F) := after hostOps0_12 (R12 m c)
theorem R13_of (c : Dev nD) (r : Ref sig .tc) (h : r ∉ hostOps0_12_W) : R13 m c (Proc.devRef .tc r) = R12 m c (Proc.devRef .tc r) :=
  after_of_writes_sub _ _ hostOps0_12_writes h

/-- The contents at the loop. -/
theorem entry_eq (c : Dev nD) : entryContents preI m c = R13 m c := rfl

/-- The clipped boxes. -/
def tableT (a d : FVec F S20000x4 .f32) : FVec F S20000x4 .f32 :=
  stack (lane (clipped (column0 (raw a d)))) (lane (clipped (column1 (raw a d)))) (lane (clipped (column2 (raw a d)))) (lane (clipped (column3 (raw a d))))

theorem clip0 (c : Dev nD) : R8 m c (Proc.devRef .tc main_v59) = clipped (column0 (raw (R0 m c (Proc.devRef .tc main_arg0)) (R0 m c (Proc.devRef .tc main_arg1)))) := by
  have carry : R8 m c (Proc.devRef .tc main_v59) = R2 m c (Proc.devRef .tc main_v59) := by
    rw [R8_of m c main_v59 (by decide +kernel), R7_of m c main_v59 (by decide +kernel), R6_of m c main_v59 (by decide +kernel), R5_of m c main_v59 (by decide +kernel), R4_of m c main_v59 (by decide +kernel), R3_of m c main_v59 (by decide +kernel)]
  have col : R1 m c (Proc.devRef .tc main_v58) = column0 (raw (R0 m c (Proc.devRef .tc main_arg0)) (R0 m c (Proc.devRef .tc main_arg1))) := pre_col0 _
  refine carry.trans ((pre_clip0 (R1 m c) (pre_lo0 _) (pre_hi0 _)).trans ?_)
  rw [col]
theorem clip1 (c : Dev nD) : R8 m c (Proc.devRef .tc main_v62) = clipped (column1 (raw (R0 m c (Proc.devRef .tc main_arg0)) (R0 m c (Proc.devRef .tc main_arg1)))) := by
  have carry : R8 m c (Proc.devRef .tc main_v62) = R4 m c (Proc.devRef .tc main_v62) := by
    rw [R8_of m c main_v62 (by decide +kernel), R7_of m c main_v62 (by decide +kernel), R6_of m c main_v62 (by decide +kernel), R5_of m c main_v62 (by decide +kernel)]
  have col : R3 m c (Proc.devRef .tc main_v61) = column1 (raw (R0 m c (Proc.devRef .tc main_arg0)) (R0 m c (Proc.devRef .tc main_arg1))) := by
    refine (pre_col1 (R2 m c)).trans ?_
    have h : R2 m c (Proc.devRef .tc main_v56) = raw (R0 m c (Proc.devRef .tc main_arg0)) (R0 m c (Proc.devRef .tc main_arg1)) := by
      rw [R2_of m c main_v56 (by decide +kernel)]
      exact pre_raw _
    rw [h]
  refine carry.trans ((pre_clip1 (R3 m c) (pre_lo1 _) (pre_hi1 _)).trans ?_)
  rw [col]
theorem clip2 (c : Dev nD) : R8 m c (Proc.devRef .tc main_v65) = clipped (column2 (raw (R0 m c (Proc.devRef .tc main_arg0)) (R0 m c (Proc.devRef .tc main_arg1)))) := by
  have carry : R8 m c (Proc.devRef .tc main_v65) = R6 m c (Proc.devRef .tc main_v65) := by
    rw [R8_of m c main_v65 (by decide +kernel), R7_of m c main_v65 (by decide +kernel)]
  have col : R5 m c (Proc.devRef .tc main_v64) = column2 (raw (R0 m c (Proc.devRef .tc main_arg0)) (R0 m c (Proc.devRef .tc main_arg1))) := by
    refine (pre_col2 (R4 m c)).trans ?_
    have h : R4 m c (Proc.devRef .tc main_v56) = raw (R0 m c (Proc.devRef .tc main_arg0)) (R0 m c (Proc.devRef .tc main_arg1)) := by
      rw [R4_of m c main_v56 (by decide +kernel), R3_of m c main_v56 (by decide +kernel), R2_of m c main_v56 (by decide +kernel)]
      exact pre_raw _
    rw [h]
  refine carry.trans ((pre_clip2 (R5 m c) (pre_lo2 _) (pre_hi2 _)).trans ?_)
  rw [col]
theorem clip3 (c : Dev nD) : R8 m c (Proc.devRef .tc main_v68) = clipped (column3 (raw (R0 m c (Proc.devRef .tc main_arg0)) (R0 m c (Proc.devRef .tc main_arg1)))) := by
  have carry : R8 m c (Proc.devRef .tc main_v68) = R8 m c (Proc.devRef .tc main_v68) := by
    rfl
  have col : R7 m c (Proc.devRef .tc main_v67) = column3 (raw (R0 m c (Proc.devRef .tc main_arg0)) (R0 m c (Proc.devRef .tc main_arg1))) := by
    refine (pre_col3 (R6 m c)).trans ?_
    have h : R6 m c (Proc.devRef .tc main_v56) = raw (R0 m c (Proc.devRef .tc main_arg0)) (R0 m c (Proc.devRef .tc main_arg1)) := by
      rw [R6_of m c main_v56 (by decide +kernel), R5_of m c main_v56 (by decide +kernel), R4_of m c main_v56 (by decide +kernel), R3_of m c main_v56 (by decide +kernel), R2_of m c main_v56 (by decide +kernel)]
      exact pre_raw _
    rw [h]
  refine carry.trans ((pre_clip3 (R7 m c) (pre_lo3 _) (pre_hi3 _)).trans ?_)
  rw [col]
theorem R9_table (c : Dev nD) : R9 m c (Proc.devRef .tc main_v73) = tableT (R0 m c (Proc.devRef .tc main_arg0)) (R0 m c (Proc.devRef .tc main_arg1)) := by
  refine (pre_table (R8 m c)).trans ?_
  rw [clip0, clip1, clip2, clip3]
  unfold tableT
  with_reducible rfl
theorem R10_valued (c : Dev nD) : R10 m c (Proc.devRef .tc main_v89) = valued (tableT (R0 m c (Proc.devRef .tc main_arg0)) (R0 m c (Proc.devRef .tc main_arg1))) (R0 m c (Proc.devRef .tc main_arg2)) := by
  refine (pre_valued (R9 m c) (pre_least _)).trans ?_
  have bits : R9 m c (Proc.devRef .tc main_v88) = _ := pre_bits (R8 m c)
  have arg : R9 m c (Proc.devRef .tc main_arg2) = (R0 m c (Proc.devRef .tc main_arg2)) := by
    rw [R9_of m c main_arg2 (by decide +kernel), R8_of m c main_arg2 (by decide +kernel), R7_of m c main_arg2 (by decide +kernel), R6_of m c main_arg2 (by decide +kernel), R5_of m c main_arg2 (by decide +kernel), R4_of m c main_arg2 (by decide +kernel), R3_of m c main_arg2 (by decide +kernel), R2_of m c main_arg2 (by decide +kernel), R1_of m c main_arg2 (by decide +kernel)]
  rw [bits, arg, clip0, clip1, clip2, clip3]
  unfold valued tableT
  with_reducible rfl
/-- The chosen boxes. -/
def picked (c : Dev nD) : FVec F S2000x4 .f32 := chosen (tableT (R0 m c (Proc.devRef .tc main_arg0)) (R0 m c (Proc.devRef .tc main_arg1))) (bestAt (valued (tableT (R0 m c (Proc.devRef .tc main_arg0)) (R0 m c (Proc.devRef .tc main_arg1))) (R0 m c (Proc.devRef .tc main_arg2))))
theorem R10_table (c : Dev nD) : R10 m c (Proc.devRef .tc main_v73) = tableT (R0 m c (Proc.devRef .tc main_arg0)) (R0 m c (Proc.devRef .tc main_arg1)) := by
  rw [R10_of m c main_v73 (by decide +kernel)]
  exact R9_table m c
/-- At the loop the best scores are those of the valid boxes. -/
theorem R13_values (c : Dev nD) : R13 m c (Proc.devRef .tc main_values) = best (valued (tableT (R0 m c (Proc.devRef .tc main_arg0)) (R0 m c (Proc.devRef .tc main_arg1))) (R0 m c (Proc.devRef .tc main_arg2))) := by
  rw [R13_of m c main_values (by decide +kernel), R12_of m c main_values (by decide +kernel)]
  refine (pre_values (R10 m c)).trans ?_
  rw [R10_valued]
/-- And the chosen boxes are theirs. -/
theorem R13_chosen (c : Dev nD) : R13 m c (Proc.devRef .tc main_v96) = picked m c := by
  rw [R13_of m c main_v96 (by decide +kernel), R12_of m c main_v96 (by decide +kernel)]
  refine (pre_chosen (R10 m c)).trans ?_
  rw [R10_valued, R10_table]
  unfold picked
  with_reducible rfl
theorem R12_areas (c : Dev nD) : R12 m c (Proc.devRef .tc main_v107) = areas (picked m c) := by
  rw [R12_of m c main_v107 (by decide +kernel)]
  refine (pre_areas (R10 m c)).trans ?_
  rw [R10_valued, R10_table]
  unfold picked
  with_reducible rfl
theorem R11_extents (c : Dev nD) : R11 m c (Proc.devRef .tc main_v122) = extents (picked m c) := by
  refine (pre_extents (R10 m c)).trans ?_
  rw [R10_valued, R10_table]
  unfold picked
  with_reducible rfl
/-- The ratios of every two boxes. -/
def ratioT (x : FVec F S2000x4 .f32) : FVec F S2000x2000 .f32 :=
  ratios (maximumf (broadcastInDim S2000x2000x2 ![] bcast_S_S2000x2000x2 (constant S_ .f32 0x00000000#32)) (extents x)) (areas x)
/-- The ratios are those of the chosen boxes. -/
theorem R13_ratios (c : Dev nD) : R13 m c (Proc.devRef .tc main_v140_0) = ratioT (picked m c) := by
  refine (pre_ratios (R12 m c)).trans ?_
  have e : R12 m c (Proc.devRef .tc main_v123) = _ := pre_positive (R11 m c) (pre_nought _)
  rw [R12_areas, e, R11_extents]
  unfold ratioT
  with_reducible rfl

end

/-! ### The terms read at an entry -/

theorem column0_at (x : FVec Ideal S20000x4 .f32) (i : Fin 20000) : column0 x (ix1 i) = x (ix2 i 0) := by
  unfold column0
  pointwise
theorem column1_at (x : FVec Ideal S20000x4 .f32) (i : Fin 20000) : column1 x (ix1 i) = x (ix2 i 1) := by
  unfold column1
  pointwise
theorem column2_at (x : FVec Ideal S20000x4 .f32) (i : Fin 20000) : column2 x (ix1 i) = x (ix2 i 2) := by
  unfold column2
  pointwise
theorem column3_at (x : FVec Ideal S20000x4 .f32) (i : Fin 20000) : column3 x (ix1 i) = x (ix2 i 3) := by
  unfold column3
  pointwise
theorem stack_at (a b c d : FVec Ideal S20000 .f32) (i : Fin 20000) (k : Fin 4) : stack (lane a) (lane b) (lane c) (lane d) (ix2 i k) = ![a (ix1 i), b (ix1 i), c (ix1 i), d (ix1 i)] k := by
  unfold stack lane
  pointwise
  fin_cases k <;> simp
theorem middles_at (a b d : FVec Ideal S20000 .f32) (i : Fin 20000) : middles a b d (ix1 i) = middle (a (ix1 i)) (b (ix1 i)) (d (ix1 i)) := by
  unfold middles every
  pointwise
  rfl
theorem halves_at (a b e : FVec Ideal S20000 .f32) (i : Fin 20000) : halves a b e (ix1 i) = half (a (ix1 i)) (b (ix1 i)) (e (ix1 i)) := by
  unfold halves every
  pointwise
  rfl
theorem clipped_at (x : FVec Ideal S20000 .f32) (i : Fin 20000) : clipped x (ix1 i) = clip (x (ix1 i)) := by
  unfold clipped every
  pointwise
  rfl
theorem subf_at (x y : FVec Ideal S20000 .f32) (i : Fin 20000) : subf x y (ix1 i) = x (ix1 i) - y (ix1 i) := by
  pointwise
theorem addf_at (x y : FVec Ideal S20000 .f32) (i : Fin 20000) : addf x y (ix1 i) = x (ix1 i) + y (ix1 i) := by
  pointwise
theorem valued_at (t : FVec Ideal S20000x4 .f32) (s : FVec Ideal S20000 .f32) (i : Fin 20000) :
    valued t s (ix1 i) = scored (t (ix2 i 0)) (t (ix2 i 1)) (t (ix2 i 2)) (t (ix2 i 3)) (s (ix1 i)) := by
  unfold valued every column0 column1 column2 column3
  pointwise
  rfl

/-- The clipped boxes. -/
theorem tableT_eq (a d : FVec Ideal S20000x4 .f32) : tableT a d = boxes a d := by
  funext x
  obtain ⟨i, k, rfl⟩ : ∃ (i : Fin 20000) (k : Fin 4), x = ix2 i k := ⟨x 0, x 1, eq_ix2 x⟩
  unfold tableT
  rw [stack_at, clipped_at, clipped_at, clipped_at, clipped_at, column0_at, column1_at, column2_at, column3_at]
  unfold raw
  rw [stack_at, stack_at, stack_at, stack_at]
  simp only [Matrix.cons_val]
  rw [subf_at, subf_at, addf_at, addf_at, middles_at, middles_at, halves_at, halves_at]
  simp only [column0_at, column1_at, column2_at, column3_at]
  rfl

/-- Their scores. -/
theorem valued_eq (a d : FVec Ideal S20000x4 .f32) (s : FVec Ideal S20000 .f32) : valued (tableT a d) s = scores a d s := by
  funext x
  obtain ⟨i, rfl⟩ : ∃ (i : Fin 20000), x = ix1 i := ⟨x 0, eq_ix1 x⟩
  rw [valued_at, tableT_eq]
  rfl

/-- The ratio of two chosen boxes. -/
theorem ratioT_at (x : FVec Ideal S2000x4 .f32) (i j : Fin 2000) : ratioT x (ix2 i j) = iou (fun k => x (ix2 i k)) (fun k => x (ix2 j k)) := by
  unfold ratioT ratios commons areas extents
  pointwise
  rfl

end Cert.Proof.ReferenceIdeal
-- ==== Proof.LoopReference.lean ====
/- The reference's loop: after `k` trips the keep bits are the greedy choice once the first `k` boxes have been processed. -/
module

public import proofs.«01_k».proof.Proof.EntryReference
public import proofs.«01_k».proof.Proof.Bit
public import proofs.«01_k».proof.Proof.Greedy
public import Idealize.ShloMosaic.Lib.WordCmp

@[expose] public section

set_option maxRecDepth 16384

noncomputable section

namespace Cert.Proof.ReferenceIdeal

open Cert.ReferenceIdeal Cert.ReferenceIdeal.Gen Cert.ReferenceIdeal.Value
open Idealize.ShloMosaic Idealize.ShloMosaic.TcCoe Idealize.ShloMosaic.StableHlo

/-- An index counted from the end where it is negative. -/
def wrapped (w : IVec S_ 32) : IVec S_ 32 := select (cmpi .slt w (constantI S_ 32 0#32)) (addi w (constantI S_ 32 2000#32)) w

/-- The keep bits after one trip, from the ratios at row `r`, the trip's number `w`, and whether its own box stands. -/
def struck (I : FVec Ideal S2000x2000 .f32) (io : IVec S2000 32) (w : IVec S_ 32) (K : IVec S2000 1) (r : Fin 2 → ℤ) (q : Fin 1 → ℤ) : IVec S2000 1 :=
  andi K (noti (andi (andi (cmpf .ogt (shapeCast S2000 (Host.dynamicSlice S1x2000 I r sliceFits_S2000x2000_S1x2000) shapeCasts_S1x2000_S2000)
      (broadcastInDim S2000 ![] bcast_S_S2000 (constant S_ .f32 0x3F333333#32)))
    (broadcastInDim S2000 ![] bcast_S_S2000 (shapeCast S_ (Host.dynamicSlice S1 K q sliceFits_S2000_S1) shapeCasts_S1_S_)))
    (cmpi .sgt io (broadcastInDim S2000 ![] bcast_S_S2000 w))))

/-- One trip's keep bits, with the trip number as the row and column read. -/
theorem step_struck (V : Valuation τ sig (Elt Ideal)) : step_main_v140_4 V
    = struck (V (Proc.devRef .tc main_v140_0)) (V (Proc.devRef .tc main_v140_1)) (V (Proc.devRef .tc main_v140_3)) (V (Proc.devRef .tc main_v140_4))
      (fun a => ((![wrapped (V (Proc.devRef .tc main_v140_3)), wrapped (constantI S_ 32 0#32)] : Fin 2 → IVec S_ 32) a (Shape.Idx.first h_S_)).toInt)
      (fun a => ((![wrapped (V (Proc.devRef .tc main_v140_3))] : Fin 1 → IVec S_ 32) a (Shape.Idx.first h_S_)).toInt) := by
  unfold step_main_v140_4 res_main_while0b_v159 struck wrapped
  rfl

/-- A small word read signed is its number. -/
theorem toInt_small (k : ℕ) (hk : k < 2000) : (BitVec.ofNat 32 k).toInt = k := by
  have hn : (BitVec.ofNat 32 k).toNat = k := by rw [BitVec.toNat_ofNat]; omega
  rw [BitVec.toInt_eq_toNat_of_lt (by rw [hn]; omega), hn]

/-- A small index is not wrapped. -/
theorem wrapped_small (k : ℕ) (hk : k < 2000) (i : S_.Idx) : (wrapped (fun _ => BitVec.ofNat 32 k) i).toInt = k := by
  unfold wrapped
  show (Scalar.select (IntOp.cmpi .slt (BitVec.ofNat 32 k) 0#32) _ (BitVec.ofNat 32 k)).toInt = k
  have e : IntOp.cmpi .slt (BitVec.ofNat 32 k) 0#32 = 0#1 := by
    rw [WordCmp.cmpi_slt_eq, toInt_small k hk, ofBool_decide]
    exact bit_false (by simp)
  rw [e]
  exact toInt_small k hk

/-- The keep bit of a box after one trip. -/
theorem struck_at (I : FVec Ideal S2000x2000 .f32) (k : Fin 2000) (K : IVec S2000 1) (G : ℕ → Prop) (hG : ∀ j : Fin 2000, K (ix1 j) = bit (G j))
    (r : Fin 2 → ℤ) (q : Fin 1 → ℤ) (r0 : r 0 = k) (r1 : r 1 = 0) (q0 : q 0 = k) (j : Fin 2000) :
    struck I (iotaInDim S2000 32 0) (fun _ => BitVec.ofNat 32 k) K r q (ix1 j)
      = bit (G j ∧ ¬ (Ideal.ofBits .f32 1060320051#32 < I (ix2 k j) ∧ G k ∧ (k : ℕ) < j)) := by
  have hs : IntOp.cmpi .sgt (BitVec.ofNat 32 (j : ℕ)) (BitVec.ofNat 32 (k : ℕ)) = bit ((k : ℕ) < j) := by
    rw [WordCmp.cmpi_sgt_ofNat (by omega) (by omega), ofBool_decide]
  have c0 : ∀ h1, Host.clampedStart S2000x2000 S1x2000 h1 r 0 = k := by
    intro h1
    unfold Host.clampedStart
    simp [r0]
    omega
  have c1 : ∀ h1, Host.clampedStart S2000x2000 S1x2000 h1 r 1 = 0 := by
    intro h1
    unfold Host.clampedStart
    simp [r1]
  have c2 : ∀ h1, Host.clampedStart S2000 S1 h1 q 0 = k := by
    intro h1
    unfold Host.clampedStart
    simp [q0]
    omega
  unfold struck
  pointwise
  simp only [c0, c1, c2, Nat.zero_add, Fin.eta]
  rw [hG, hG, hs, ofBool_decide, andi_bit, andi_bit, not_bit, andi_bit]
  exact bit_congr (and_congr_right fun _ => not_congr and_assoc)

/-- Whether the ratio of two boxes passes the threshold. -/
def passes (I : FVec Ideal S2000x2000 .f32) (i j : ℕ) : Prop :=
  ∃ (hi : i < 2000) (hj : j < 2000), Ideal.ofBits .f32 1060320051#32 < I (ix2 ⟨i, hi⟩ ⟨j, hj⟩)

/-- The carried buffers after `k` trips. -/
theorem trips (E : Valuation τ sig (Elt Ideal)) (h1 : E (Proc.devRef .tc main_v140_1) = iotaInDim S2000 32 0)
    (h3 : E (Proc.devRef .tc main_v140_3) = constantI S_ 32 0#32)
    (h4 : E (Proc.devRef .tc main_v140_4) = broadcastInDim S2000 ![] bcast_S_S2000 (constantI S_ 1 1#1)) (k : ℕ) (hk : k ≤ 2000) :
    STEP^[k] E (Proc.devRef .tc main_v140_0) = E (Proc.devRef .tc main_v140_0) ∧ STEP^[k] E (Proc.devRef .tc main_v140_1) = iotaInDim S2000 32 0
      ∧ (STEP^[k] E (Proc.devRef .tc main_v140_3) = fun _ => BitVec.ofNat 32 k)
      ∧ ∀ j : Fin 2000, STEP^[k] E (Proc.devRef .tc main_v140_4) (ix1 j) = bit (greedy (passes (E (Proc.devRef .tc main_v140_0))) k j) := by
  induction k with
  | zero =>
    refine ⟨rfl, h1, h3, fun j => ?_⟩
    show E (Proc.devRef .tc main_v140_4) (ix1 j) = _
    rw [h4, bit_true (show greedy _ 0 (j : ℕ) from trivial)]
    pointwise
  | succ k ih =>
    obtain ⟨a0, a1, a3, a4⟩ := ih (by omega)
    rw [Function.iterate_succ_apply']
    refine ⟨(STEP_main_v140_0 _).trans a0, (STEP_main_v140_1 _).trans a1, ?_, fun j => ?_⟩
    · rw [STEP_main_v140_3]
      unfold step_main_v140_3
      rw [a3]
      funext i
      show BitVec.ofNat 32 k + 1#32 = BitVec.ofNat 32 (k + 1)
      rw [BitVec.ofNat_add]
    · rw [STEP_main_v140_4, step_struck, a0, a1, a3]
      refine (struck_at _ ⟨k, by omega⟩ _ _ a4 _ _ (wrapped_small k (by omega) (Shape.Idx.first h_S_)) (wrapped_small 0 (by omega) (Shape.Idx.first h_S_)) (wrapped_small k (by omega) (Shape.Idx.first h_S_)) j).trans
        (bit_congr ?_)
      rw [greedy_succ]
      refine and_congr_right fun _ => not_congr (and_congr_left fun _ => ?_)
      exact ⟨fun h => ⟨by omega, j.isLt, h⟩, fun ⟨_, _, h⟩ => h⟩

/-- What the core returns: the rows of the chosen boxes and best scores in the order of the scores left standing. -/
theorem final_rows (m : (ℓ : Loc nD τ sig) → Buf (Elt Ideal) ℓ) (c : Dev nD) :
    ∃ K : IVec S2000 1,
      (∀ j : Fin 2000, K (ix1 j) = bit (greedy (passes (ratioT (F := Ideal) (picked m c))) 2000 j))
      ∧ finalContents condOps preI bodyI postI 2000 m c (Proc.devRef .tc main_v157)
          = rows (F := Ideal) (picked m c) (R13 m c (Proc.devRef .tc main_values)) (order (F := Ideal) (standing (F := Ideal) K (R13 m c (Proc.devRef .tc main_values)))) := by
  have hE1 : R13 m c (Proc.devRef .tc main_v140_1) = iotaInDim S2000 32 0 := pre_iota (R12 m c)
  have hE3 : R13 m c (Proc.devRef .tc main_v140_3) = constantI S_ 32 0#32 := pre_count (R12 m c)
  have hE4 : R13 m c (Proc.devRef .tc main_v140_4) = broadcastInDim S2000 ![] bcast_S_S2000 (constantI S_ 1 1#1) := pre_ones (R12 m c)
  have carry : ∀ r : Ref sig .tc, r ∉ condOps_W → r ∉ while0Ops0_W → ∀ k,
      atTrip condOps bodyI (entryContents preI m) k c (Proc.devRef .tc r) = R13 m c (Proc.devRef .tc r) := by
    intro r hc hb k
    induction k with
    | zero => rfl
    | succ k ih =>
      simp only [atTrip_succ, bodyI, afterL_cons, afterL_nil]
      rw [after_of_writes_sub _ _ while0Ops0_writes hb, after_of_writes_sub _ _ condOps_writes hc, ih]
  have t := trips (R13 m c) hE1 hE3 hE4 2000 le_rfl
  have hK : after condOps (atTrip condOps bodyI (entryContents preI m) 2000 c) (Proc.devRef .tc main_v140_4)
      = STEP^[2000] (R13 m c) (Proc.devRef .tc main_v140_4) :=
    (cond_keeps _ main_v140_4 (by decide)).trans (atK_agree m c 2000 main_v140_4 (by decide))
  refine ⟨STEP^[2000] (R13 m c) (Proc.devRef .tc main_v140_4), fun j => ?_, ?_⟩
  · rw [t.2.2.2 j, R13_ratios]
  · simp only [finalContents, postI, afterL_cons, afterL_nil]
    generalize hA : after condOps (atTrip condOps bodyI (entryContents preI m) 2000 c) = A at hK
    have a96 : A (Proc.devRef .tc main_v96) = picked m c := by
      rw [← hA, after_of_writes_sub _ _ condOps_writes (by decide +kernel), carry _ (by decide +kernel) (by decide +kernel), R13_chosen]
    have av : A (Proc.devRef .tc main_values) = R13 m c (Proc.devRef .tc main_values) := by
      rw [← hA, after_of_writes_sub _ _ condOps_writes (by decide +kernel), carry _ (by decide +kernel) (by decide +kernel)]
    rw [post_rows (after hostOps0_14 (after hostOps0_13 A)), post_standing (after hostOps0_13 A) (post_least A),
      after_of_writes_sub _ _ hostOps0_14_writes (by decide +kernel : main_v96 ∉ hostOps0_14_W),
      after_of_writes_sub _ _ hostOps0_14_writes (by decide +kernel : main_values ∉ hostOps0_14_W),
      after_of_writes_sub _ _ hostOps0_13_writes (by decide +kernel : main_v96 ∉ hostOps0_13_W),
      after_of_writes_sub _ _ hostOps0_13_writes (by decide +kernel : main_values ∉ hostOps0_13_W),
      after_of_writes_sub _ _ hostOps0_13_writes (by decide +kernel : main_v140_4 ∉ hostOps0_13_W), a96, av, hK]

end Cert.Proof.ReferenceIdeal
-- ==== Proof.Descending.lean ====
/- The greatest entries of a vector over the extended reals: a stable sort in descending order, cut to its first entries. -/
module

public import Idealize.ShloMosaic.Lib.Pointwise
public import Idealize.ShloMosaic.Lib.SortFacts

@[expose] public section

noncomputable section

namespace Cert.Proof

open Idealize.ShloMosaic

/-- The position whose entry comes `p`-th in descending order. -/
def source {N : ℕ} (x : (⟨1, ![N]⟩ : Shape).Idx → EReal) (p : Fin N) : Fin N :=
  sortedFrom (fun k k' : Fin N => decide (x (ix1 k') < x (ix1 k))) p

/-- A vector has one axis: moving along it gives the position moved to. -/
theorem along_ix1 {N : ℕ} (p k : Fin N) : (ix1 p : (⟨1, ![N]⟩ : Shape).Idx).along (0 : Fin 1) k = ix1 k := by
  funext a
  match a with
  | ⟨0, _⟩ => rfl

/-- The comparison the sort makes is the order of the extended reals. -/
theorem gt_bit (a b : EReal) : ((FloatOps.cmpfTotal (F := Ideal) (φ := .f32) .gt a b) == 1#1) = decide (b < a) := by
  show (BitVec.ofBool (decide (b < a)) == 1#1) = _
  by_cases h : b < a <;> simp [h]

/-- A sort of two vectors by the first, read at a position. -/
theorem sort2_at {N : ℕ} {β : Type} (x : (⟨1, ![N]⟩ : Shape).Idx → EReal) (y : (⟨1, ![N]⟩ : Shape).Idx → β) (p : Fin N) :
    (Host.sort2 (⟨1, ![N]⟩ : Shape) 0 (fun l r : EReal × β => FloatOps.cmpfTotal (F := Ideal) (φ := .f32) .gt l.1 r.1) x y).1 (ix1 p) = x (ix1 (source x p))
      ∧ (Host.sort2 (⟨1, ![N]⟩ : Shape) 0 (fun l r : EReal × β => FloatOps.cmpfTotal (F := Ideal) (φ := .f32) .gt l.1 r.1) x y).2 (ix1 p) = y (ix1 (source x p)) := by
  have e : ∀ q : Fin N, sortedFrom (fun k k' : Fin N => FloatOps.cmpfTotal (F := Ideal) (φ := .f32) .gt (x ((ix1 q : (⟨1, ![N]⟩ : Shape).Idx).along (0 : Fin 1) k)) (x ((ix1 q : (⟨1, ![N]⟩ : Shape).Idx).along (0 : Fin 1) k')) == 1#1) q = source x q := by
    intro q
    unfold source
    congr 1
    funext k k'
    rw [gt_bit]
    rw [along_ix1, along_ix1]
  constructor
  · show x ((ix1 p : (⟨1, ![N]⟩ : Shape).Idx).along (0 : Fin 1) _) = _
    refine (congrArg x (along_ix1 p _)).trans (congrArg (fun k => x (ix1 k)) (e p))
  · show y ((ix1 p : (⟨1, ![N]⟩ : Shape).Idx).along (0 : Fin 1) _) = _
    refine (congrArg y (along_ix1 p _)).trans (congrArg (fun k => y (ix1 k)) (e p))

/-- The `p`-th greatest entry. -/
theorem topK_value {N n : ℕ} (x : (⟨1, ![N]⟩ : Shape).Idx → EReal) (h : (⟨1, ![N]⟩ : Shape).Slices (fun _ => 0) (⟨1, ![n]⟩ : Shape)) (p : Fin n) (hp : p.val < N) :
    (Host.topK (⟨1, ![n]⟩ : Shape) 0 (FloatOps.cmpfTotal (F := Ideal) (φ := .f32) .gt) x h).1 (ix1 p) = x (ix1 (source x ⟨p, hp⟩)) := by
  refine Eq.trans ?_ (sort2_at x (iotaInDim (⟨1, ![N]⟩ : Shape) 32 0) ⟨p, hp⟩).1
  refine congrArg (Host.sort2 (⟨1, ![N]⟩ : Shape) 0 (fun l r : EReal × BitVec 32 => FloatOps.cmpfTotal (F := Ideal) (φ := .f32) .gt l.1 r.1) x (iotaInDim (⟨1, ![N]⟩ : Shape) 32 0)).1 ?_
  funext a
  match a with
  | ⟨0, _⟩ => exact Fin.ext (Nat.zero_add _)

/-- And where it stands. -/
theorem topK_position {N n : ℕ} (x : (⟨1, ![N]⟩ : Shape).Idx → EReal) (h : (⟨1, ![N]⟩ : Shape).Slices (fun _ => 0) (⟨1, ![n]⟩ : Shape)) (p : Fin n) (hp : p.val < N) :
    (Host.topK (⟨1, ![n]⟩ : Shape) 0 (FloatOps.cmpfTotal (F := Ideal) (φ := .f32) .gt) x h).2 (ix1 p) = BitVec.ofNat 32 (source x ⟨p, hp⟩) := by
  refine Eq.trans ?_ (sort2_at x (iotaInDim (⟨1, ![N]⟩ : Shape) 32 0) ⟨p, hp⟩).2
  refine congrArg (Host.sort2 (⟨1, ![N]⟩ : Shape) 0 (fun l r : EReal × BitVec 32 => FloatOps.cmpfTotal (F := Ideal) (φ := .f32) .gt l.1 r.1) x (iotaInDim (⟨1, ![N]⟩ : Shape) 32 0)).2 ?_
  funext a
  match a with
  | ⟨0, _⟩ => exact Fin.ext (Nat.zero_add _)

/-- The greatest entries descend. -/
theorem topK_descends {N n : ℕ} (x : (⟨1, ![N]⟩ : Shape).Idx → EReal) (h : (⟨1, ![N]⟩ : Shape).Slices (fun _ => 0) (⟨1, ![n]⟩ : Shape)) (hn : n ≤ N) (p q : Fin n) (hpq : p < q) :
    (Host.topK (⟨1, ![n]⟩ : Shape) 0 (FloatOps.cmpfTotal (F := Ideal) (φ := .f32) .gt) x h).1 (ix1 q)
      ≤ (Host.topK (⟨1, ![n]⟩ : Shape) 0 (FloatOps.cmpfTotal (F := Ideal) (φ := .f32) .gt) x h).1 (ix1 p) := by
  rw [topK_value x h p (by omega), topK_value x h q (by omega)]
  have key := sortedFrom_noInversion (fun k k' : Fin N => decide (x (ix1 k') < x (ix1 k))) (fun k k' : Fin N => decide (x (ix1 k') < x (ix1 k)))
    (fun a b hab => by simp only [decide_eq_true_eq, decide_eq_false_iff_not] at *; exact hab.asymm) (fun a b hab => hab)
    (fun a b c hab hbc => by simp only [decide_eq_false_iff_not, not_lt] at *; exact hab.trans hbc)
    ⟨p, by omega⟩ ⟨q, by omega⟩ hpq
  simpa [source] using key

end Cert.Proof
-- ==== Proof.OrderReference.lean ====
/- The order in which the reference takes the boxes is the stable partition by standing with a score above the bottom
   (`ReferenceIdeal`). -/
module

public import proofs.«01_k».proof.Proof.HostReference
public import proofs.«01_k».proof.Proof.Descending
public import proofs.«01_k».proof.Proof.StablePartition
public import proofs.«01_k».proof.Proof.FlagsKernelIdeal

@[expose] public section

set_option maxRecDepth 16384

noncomputable section

namespace Cert.Proof.ReferenceIdeal

open Cert.ReferenceIdeal Cert.ReferenceIdeal.Gen Idealize.ShloMosaic

/-- The scores left standing. -/
theorem standing_at (K : IVec S2000 1) (v : FVec Ideal S2000 .f32) (i : Fin 2000) :
    standing K v (ix1 i) = Scalar.select (K (ix1 i)) (v (ix1 i)) ⊥ := by
  unfold standing
  pointwise
  rw [ofBits_bottom]

/-- The position taken at the place of `i` is `i`. -/
theorem order_at (K : IVec S2000 1) (G : ℕ → Prop) (hK : ∀ j : Fin 2000, K (ix1 j) = bit (G j)) (v : FVec Ideal S2000 .f32)
    (hv : ∀ p q : Fin 2000, p < q → v (ix1 q) ≤ v (ix1 p)) (f : ℕ → Prop) [DecidablePred f] (hf : ∀ i : Fin 2000, f i ↔ G i ∧ ⊥ < v (ix1 i))
    (p : Fin 1000) (i : Fin 2000) (hi : place f 2000 i = p) : order (standing K v) (ix1 p) = BitVec.ofNat 32 i := by
  classical
  unfold order
  refine (topK_position (N := 2000) (n := 1000) (standing K v) sliceFits_S2000_S1000 p (by omega)).trans ?_
  have key := sortedFrom_place (f := f) (fun i : Fin 2000 => standing K v (ix1 i)) (fun i : Fin 2000 => v (ix1 i)) hv (fun i => ?_) (fun i h => ((hf i).1 h).2) i
  · have e : (⟨p, by omega⟩ : Fin 2000) = ⟨place f 2000 i, place_lt i.isLt⟩ := Fin.ext hi.symm
    rw [e]
    exact congrArg (fun k : Fin 2000 => BitVec.ofNat 32 (k : ℕ)) key
  · show standing K v (ix1 i) = _
    rw [standing_at, hK, select_bit]
    by_cases h : G i
    · by_cases h2 : ⊥ < v (ix1 i)
      · rw [if_pos h, if_pos ((hf i).2 ⟨h, h2⟩)]
      · rw [if_pos h, if_neg fun hh => h2 ((hf i).1 hh).2]
        exact not_bot_lt_iff.mp h2
    · rw [if_neg h, if_neg fun hh => h ((hf i).1 hh).1]

end Cert.Proof.ReferenceIdeal
-- ==== Proof.Algebraic.lean ====
/- Over the extended reals the kernel and the reference return the same rows. -/
module

public import proofs.«01_k».proof.Defs
public import proofs.«01_k».proof.Proof.MidKernelIdeal
public import proofs.«01_k».proof.Proof.PlacesKernelIdeal
public import proofs.«01_k».proof.Proof.LoopReference
public import proofs.«01_k».proof.Proof.OrderReference

@[expose] public section

set_option maxRecDepth 16384

noncomputable section

namespace Cert.Proof

open Cert

open Idealize.ShloMosaic Idealize.ShloMosaic.TcCoe Idealize.SL.Sem

section Same

variable {F : FTy → Type} [FloatOps F]

/-- The best scores are the same term in both programs. -/
theorem best_same (x : FVec F ReferenceIdeal.S20000 .f32) : KernelIdeal.best x = ReferenceIdeal.best x := rfl
/-- So are their positions. -/
theorem bestAt_same (x : FVec F ReferenceIdeal.S20000 .f32) : KernelIdeal.bestAt x = ReferenceIdeal.bestAt x := rfl
/-- So are the boxes at given positions. -/
theorem chosen_same (b : FVec F ReferenceIdeal.S20000x4 .f32) (o : IVec ReferenceIdeal.S2000 32) : KernelIdeal.chosen b o = ReferenceIdeal.chosen b o := rfl
/-- So are the rows of the result. -/
theorem rows_same (b : FVec F ReferenceIdeal.S2000x4 .f32) (v : FVec F ReferenceIdeal.S2000 .f32) (o : IVec ReferenceIdeal.S1000 32) :
    KernelIdeal.rows b v o = ReferenceIdeal.rows b v o := rfl

end Same

/-- The greedy choice read off the padded boxes and off the table of ratios. -/
theorem greedy_same (x : FVec Ideal ReferenceIdeal.S2000x4 .f32) (j : ℕ) (hj : j < 2000) :
    greedy (KernelIdeal.hit (KernelIdeal.padBox x)) j j ↔ greedy (ReferenceIdeal.passes (ReferenceIdeal.ratioT (F := Ideal) x)) 2000 j := by
  rw [← greedy_settled (hit := KernelIdeal.hit (KernelIdeal.padBox x)) (k := 2000) (j := j) hj.le]
  refine greedy_congr (n := 2000) (fun a b ha hb => ?_) 2000 j hj
  unfold KernelIdeal.hit overlaps ReferenceIdeal.passes
  rw [KernelIdeal.padBox_lt x a ha, KernelIdeal.padBox_lt x b hb]
  constructor
  · intro h
    exact ⟨ha, hb, by rw [ReferenceIdeal.ratioT_at]; exact h⟩
  · rintro ⟨_, _, h⟩
    rwa [ReferenceIdeal.ratioT_at] at h

/-- The two orders agree. -/
theorem orders_same (row : FVec Ideal KernelIdeal.S1x2048 .f32) (v : FVec Ideal ReferenceIdeal.S2000 .f32) (K : IVec ReferenceIdeal.S2000 1) (P G : ℕ → Prop)
    (hrow : ∀ j : Fin 2048, row (ix2 0 j) = ind (P j)) (hK : ∀ j : Fin 2000, K (ix1 j) = bit (G j)) (hPG : ∀ j : Fin 2000, P j ↔ G j)
    (hv : ∀ p q : Fin 2000, p < q → v (ix1 q) ≤ v (ix1 p)) :
    KernelIdeal.order (KernelIdeal.places (KernelIdeal.flags (F := Ideal) row v)) = ReferenceIdeal.order (ReferenceIdeal.standing (F := Ideal) K v) := by
  classical
  let f : ℕ → Prop := fun i => ∃ h : i < 2000, P i ∧ ⊥ < v (ix1 ⟨i, h⟩)
  have hf : ∀ i : Fin 2000, f i ↔ P i ∧ ⊥ < v (ix1 i) := fun i => ⟨fun ⟨_, h⟩ => h, fun h => ⟨i.isLt, h⟩⟩
  have hfl : ∀ i : Fin 2000, KernelIdeal.flags (F := Ideal) row v (ix1 i) = bit (f i) := fun i =>
    (KernelIdeal.flags_at row v P hrow i).trans (bit_congr (hf i).symm)
  have hbij : Function.Bijective fun i : Fin 2000 => (⟨place f 2000 i, place_lt i.isLt⟩ : Fin 2000) :=
    Finite.injective_iff_bijective.mp fun a b h => Fin.ext (place_injective a.isLt b.isLt (congrArg Fin.val h))
  funext p
  obtain ⟨q, rfl⟩ : ∃ q : Fin 1000, p = ix1 q := ⟨p 0, eq_ix1 p⟩
  obtain ⟨i, hi⟩ := hbij.2 ⟨q, by omega⟩
  have hi' : place f 2000 i = q := congrArg Fin.val hi
  rw [KernelIdeal.order_at f _ hfl q i hi']
  exact (ReferenceIdeal.order_at K G hK v hv f (fun i => (hf i).trans (and_congr_left fun _ => hPG i)) q i hi').symm

variable (m : (ℓ : Loc KernelIdeal.nD KernelIdeal.τ KernelIdeal.sig) → Buf (Elt Ideal) ℓ) (g : Dev KernelIdeal.nD → PrngReg)
  (m' : (ℓ : Loc ReferenceIdeal.nD ReferenceIdeal.τ ReferenceIdeal.sig) → Buf (Elt Ideal) ℓ) (c : Dev KernelIdeal.nD)

/-- The best scores of a launch. -/
def topScores : FVec Ideal ReferenceIdeal.S2000 .f32 :=
  ReferenceIdeal.best (F := Ideal) (scores (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)))

/-- Their boxes. -/
def topBoxes : FVec Ideal ReferenceIdeal.S2000x4 .f32 :=
  ReferenceIdeal.chosen (F := Ideal) (boxes (m ((c.tc : Thread KernelIdeal.nD KernelIdeal.τ).loc KernelIdeal.main_arg0)) (m ((c.tc : Thread KernelIdeal.nD KernelIdeal.τ).loc KernelIdeal.main_arg1)))
    (ReferenceIdeal.bestAt (F := Ideal) (scores (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2))))

/-- The best scores descend. -/
theorem topScores_descend (p q : Fin 2000) (h : p < q) : topScores m c (ix1 q) ≤ topScores m c (ix1 p) := by
  unfold topScores ReferenceIdeal.best
  exact topK_descends _ _ (by decide) p q h

/-- The kernel holds the best scores. -/
theorem kernel_values : KernelIdeal.W21 m g c (Proc.devRef .tc KernelIdeal.main_values) = topScores m c :=
  (KernelIdeal.W21_values m g c).trans (best_same _)

/-- The kernel holds their boxes. -/
theorem kernel_boxes : KernelIdeal.W21 m g c (Proc.devRef .tc KernelIdeal.main_v56) = topBoxes m c :=
  (KernelIdeal.W21_chosen m g c).trans ((chosen_same _ _).trans (congrArg _ (bestAt_same _)))

/-- What the kernel returns. -/
theorem kernel_result : ∃ row : FVec Ideal KernelIdeal.S1x2048 .f32, (∀ j : Fin 2048, row (ix2 0 j) = ind (greedy (KernelIdeal.hit (KernelIdeal.padBox (topBoxes m c))) j j))
    ∧ KernelIdeal.W29 m g c (Proc.devRef .tc KernelIdeal.main_v125)
      = ReferenceIdeal.rows (F := Ideal) (topBoxes m c) (topScores m c) (KernelIdeal.order (KernelIdeal.places (KernelIdeal.flags (F := Ideal) row (topScores m c)))) := by
  refine ⟨KernelIdeal.W24 m g c (Proc.devRef .tc KernelIdeal.main_v82), fun j => ?_, ?_⟩
  · rw [← kernel_boxes m g c]
    exact KernelIdeal.W24_keep m g c j
  · rw [KernelIdeal.W29_rows, kernel_boxes, kernel_values]
    exact rows_same _ _ _

/-- The two results agree when the arguments do. -/
theorem results_same
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2)) :
    StableHlo.finalContents ReferenceIdeal.Value.condOps ReferenceIdeal.Value.preI ReferenceIdeal.Value.bodyI ReferenceIdeal.Value.postI 2000 m' c (Proc.devRef .tc ReferenceIdeal.main_v157)
      = KernelIdeal.W29 m g c (Proc.devRef .tc KernelIdeal.main_v125) := by
  obtain ⟨K, hK, e⟩ := ReferenceIdeal.final_rows m' c
  obtain ⟨row, hrow, e'⟩ := kernel_result m g c
  have a0 : ReferenceIdeal.R0 m' c (Proc.devRef .tc ReferenceIdeal.main_arg0) = m ((c.tc : Thread KernelIdeal.nD KernelIdeal.τ).loc KernelIdeal.main_arg0) := h0
  have a1 : ReferenceIdeal.R0 m' c (Proc.devRef .tc ReferenceIdeal.main_arg1) = m ((c.tc : Thread KernelIdeal.nD KernelIdeal.τ).loc KernelIdeal.main_arg1) := h1
  have a2 : ReferenceIdeal.R0 m' c (Proc.devRef .tc ReferenceIdeal.main_arg2) = m ((c.tc : Thread KernelIdeal.nD KernelIdeal.τ).loc KernelIdeal.main_arg2) := h2
  have hp : ReferenceIdeal.picked m' c = topBoxes m c := by
    unfold ReferenceIdeal.picked topBoxes
    rw [a0, a1, a2, ReferenceIdeal.valued_eq, ReferenceIdeal.tableT_eq]
  have hb : ReferenceIdeal.R13 m' c (Proc.devRef .tc ReferenceIdeal.main_values) = topScores m c := by
    unfold topScores
    rw [ReferenceIdeal.R13_values, a0, a1, a2, ReferenceIdeal.valued_eq]
  rw [hp] at hK
  rw [e, e', hb, hp]
  exact congrArg _ (orders_same row (topScores m c) K (fun j => greedy (KernelIdeal.hit (KernelIdeal.padBox (topBoxes m c))) j j)
    (fun j => greedy (ReferenceIdeal.passes (ReferenceIdeal.ratioT (F := Ideal) (topBoxes m c))) 2000 j) hrow hK (fun j => greedy_same _ j j.isLt) (topScores_descend m c)).symm

/-- Over the extended reals the kernel and the reference return the same result, from any launch with the same arguments. -/
theorem algebraic : Cert.algebraic_KernelIdeal_ReferenceIdeal (hKernelIdeal := Cert.KernelIdeal.Gen.facts) (hReferenceIdeal := Cert.ReferenceIdeal.Gen.facts) := by
  intro m g m' g' _ h
  refine ⟨fun c => KernelIdeal.W29 m g c (Proc.devRef .tc KernelIdeal.main_v125), ?_, ?_⟩
  · exact (θ_run Cert.KernelIdeal.defs _ _).mono (fun r hr c =>
      ⟨hr.1 c _ (KernelIdeal.mem_uc KernelIdeal.main_v125 (by decide)),
       (hr.1 c _ (KernelIdeal.mem_uc KernelIdeal.main_arg0 (by decide))).trans (KernelIdeal.W29_main_arg0 m g c),
       (hr.1 c _ (KernelIdeal.mem_uc KernelIdeal.main_arg1 (by decide))).trans (KernelIdeal.W29_main_arg1 m g c),
       (hr.1 c _ (KernelIdeal.mem_uc KernelIdeal.main_arg2 (by decide))).trans (KernelIdeal.W29_main_arg2 m g c)⟩) (KernelIdeal.run m g)
  · exact (θ_run Cert.ReferenceIdeal.defs _ _).mono (fun r hr c =>
      ⟨(hr.1 c _ (StableHlo.devRef_mem_ucRefs ReferenceIdeal.main_v157 rfl)).trans (results_same m g m' c (h c).1 (h c).2.1 (h c).2.2),
       (hr.1 c _ (StableHlo.devRef_mem_ucRefs ReferenceIdeal.main_arg0 rfl)).trans (ReferenceIdeal.arg0_final m' c),
       (hr.1 c _ (StableHlo.devRef_mem_ucRefs ReferenceIdeal.main_arg1 rfl)).trans (ReferenceIdeal.arg1_final m' c),
       (hr.1 c _ (StableHlo.devRef_mem_ucRefs ReferenceIdeal.main_arg2 rfl)).trans (ReferenceIdeal.arg2_final m' c)⟩) (ReferenceIdeal.run m' g')

end Cert.Proof
-- ==== Proof.lean ====
/- The certificate's claims, assembled: the three frames, the preserved program and the equality of the two results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.RunKernel
public import proofs.«01_k».proof.Proof.RunKernelIdeal
public import proofs.«01_k».proof.Proof.RunReference
public import proofs.«01_k».proof.Proof.Algebraic

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  fun m ρ _ => Cert.Proof.Kernel.frame m ρ,
  fun m ρ _ => Cert.Proof.KernelIdeal.frame m ρ,
  fun m ρ _ => Cert.Proof.ReferenceIdeal.frame m ρ,
  trivial,
  Cert.Proof.algebraic⟩

end Cert.Proof

end
